-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)) (v3 : (c : Dev Cert.KernelIdeal.nD) → Buf (Elt Ideal) ((c.tc : Thread Cert.KernelIdeal.nD Cert.KernelIdeal.τ).loc Cert.KernelIdeal.main_v20_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_v20_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48_0) = v0 c
          ∧ r.2.mem ((c.tc : Thread Cert.ReferenceIdeal.nD Cert.ReferenceIdeal.τ).loc Cert.ReferenceIdeal.main_v48_1) = v1 c
          ∧ r.2.mem ((c.tc : Thread Cert.ReferenceIdeal.nD Cert.ReferenceIdeal.τ).loc Cert.ReferenceIdeal.main_v48_2) = v2 c
          ∧ r.2.mem ((c.tc : Thread Cert.ReferenceIdeal.nD Cert.ReferenceIdeal.τ).loc Cert.ReferenceIdeal.main_v48_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x7168 : Shape := ⟨3, ![2, 1024, 7168]⟩
abbrev S2x1024x56 : Shape := ⟨3, ![2, 1024, 56]⟩
abbrev S7168x576 : Shape := ⟨2, ![7168, 576]⟩
abbrev S56x5 : Shape := ⟨2, ![56, 5]⟩
abbrev S512 : Shape := ⟨1, ![512]⟩
abbrev S2x1024 : Shape := ⟨2, ![2, 1024]⟩
abbrev S2x1024x512 : Shape := ⟨3, ![2, 1024, 512]⟩
abbrev S2x1024x64 : Shape := ⟨3, ![2, 1024, 64]⟩
abbrev S32 : Shape := ⟨1, ![32]⟩
abbrev S_ : Shape := ⟨0, ![]⟩
abbrev S32x2 : Shape := ⟨2, ![32, 2]⟩
abbrev S64 : Shape := ⟨1, ![64]⟩
abbrev S64x1 : Shape := ⟨2, ![64, 1]⟩
abbrev S64x256 : Shape := ⟨2, ![64, 256]⟩
abbrev S2048x7168 : Shape := ⟨2, ![2048, 7168]⟩
abbrev S2048x56 : Shape := ⟨2, ![2048, 56]⟩
abbrev S1x512 : Shape := ⟨2, ![1, 512]⟩
abbrev S2048x512 : Shape := ⟨2, ![2048, 512]⟩
abbrev S2048x64 : Shape := ⟨2, ![2048, 64]⟩
abbrev S16x512 : Shape := ⟨2, ![16, 512]⟩
abbrev S2048x576 : Shape := ⟨2, ![2048, 576]⟩
abbrev S2048x5 : Shape := ⟨2, ![2048, 5]⟩
abbrev S256x7168 : Shape := ⟨2, ![256, 7168]⟩
abbrev S256x56 : Shape := ⟨2, ![256, 56]⟩
abbrev S2x256 : Shape := ⟨2, ![2, 256]⟩
abbrev S256x512 : Shape := ⟨2, ![256, 512]⟩
abbrev S256x64 : Shape := ⟨2, ![256, 64]⟩
abbrev S256x576 : Shape := ⟨2, ![256, 576]⟩
abbrev S256x5 : Shape := ⟨2, ![256, 5]⟩
abbrev S128x128 : Shape := ⟨2, ![128, 128]⟩
abbrev S1x1 : Shape := ⟨2, ![1, 1]⟩
abbrev S128x64 : Shape := ⟨2, ![128, 64]⟩
abbrev S256x128 : Shape := ⟨2, ![256, 128]⟩
abbrev S256x1 : Shape := ⟨2, ![256, 1]⟩
abbrev S7168x512 : Shape := ⟨2, ![7168, 512]⟩
abbrev S256 : Shape := ⟨1, ![256]⟩
abbrev S128x512 : Shape := ⟨2, ![128, 512]⟩
abbrev S1x256 : Shape := ⟨2, ![1, 256]⟩
abbrev S256x63 : Shape := ⟨2, ![256, 63]⟩
abbrev S1024x576 : Shape := ⟨2, ![1024, 576]⟩
abbrev S256x1024 : Shape := ⟨2, ![256, 1024]⟩

abbrev nBuf : Space → Nat
  | .hbm => 37
  | .vmem => 21
  | .smem => 1
  | _ => 0

abbrev bufTy : (tb : Table) → Fin (tcTables nBuf tb) → BufTy
  | .hbm, ⟨0, _⟩ => ⟨S2x1024x7168, .fp8e4m3⟩
  | .hbm, ⟨1, _⟩ => ⟨S2x1024x56, .f32⟩
  | .hbm, ⟨2, _⟩ => ⟨S7168x576, .fp8e4m3⟩
  | .hbm, ⟨3, _⟩ => ⟨S56x5, .f32⟩
  | .hbm, ⟨4, _⟩ => ⟨S512, .f32⟩
  | .hbm, ⟨5, _⟩ => ⟨S2x1024, .i32⟩
  | .hbm, ⟨6, _⟩ => ⟨S2x1024x512, .bf16⟩
  | .hbm, ⟨7, _⟩ => ⟨S2x1024x64, .bf16⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S32x2, .f32⟩
  | .hbm, ⟨25, _⟩ => ⟨S64, .f32⟩
  | .hbm, ⟨26, _⟩ => ⟨S64x1, .f32⟩
  | .hbm, ⟨27, _⟩ => ⟨S64x256, .f32⟩
  | .hbm, ⟨28, _⟩ => ⟨S2048x7168, .fp8e4m3⟩
  | .hbm, ⟨29, _⟩ => ⟨S2048x56, .f32⟩
  | .hbm, ⟨30, _⟩ => ⟨S1x512, .f32⟩
  | .hbm, ⟨31, _⟩ => ⟨S2048x512, .bf16⟩
  | .hbm, ⟨32, _⟩ => ⟨S2048x64, .bf16⟩
  | .hbm, ⟨33, _⟩ => ⟨S2048x7168, .bf16⟩
  | .hbm, ⟨34, _⟩ => ⟨S16x512, .f32⟩
  | .hbm, ⟨35, _⟩ => ⟨S2048x576, .fp8e5m2⟩
  | .hbm, ⟨36, _⟩ => ⟨S2048x5, .f32⟩
  | .local _ .vmem, ⟨0, _⟩ => ⟨S256x7168, .fp8e4m3⟩
  | .local _ .vmem, ⟨1, _⟩ => ⟨S256x7168, .fp8e4m3⟩
  | .local _ .vmem, ⟨2, _⟩ => ⟨S256x56, .f32⟩
  | .local _ .vmem, ⟨3, _⟩ => ⟨S256x56, .f32⟩
  | .local _ .vmem, ⟨4, _⟩ => ⟨S7168x576, .fp8e4m3⟩
  | .local _ .vmem, ⟨5, _⟩ => ⟨S1x512, .f32⟩
  | .local _ .vmem, ⟨6, _⟩ => ⟨S2x256, .i32⟩
  | .local _ .vmem, ⟨7, _⟩ => ⟨S2x256, .i32⟩
  | .local _ .vmem, ⟨8, _⟩ => ⟨S64x256, .f32⟩
  | .local _ .vmem, ⟨9, _⟩ => ⟨S256x512, .bf16⟩
  | .local _ .vmem, ⟨10, _⟩ => ⟨S256x512, .bf16⟩
  | .local _ .vmem, ⟨11, _⟩ => ⟨S256x64, .bf16⟩
  | .local _ .vmem, ⟨12, _⟩ => ⟨S256x64, .bf16⟩
  | .local _ .vmem, ⟨13, _⟩ => ⟨S256x7168, .bf16⟩
  | .local _ .vmem, ⟨14, _⟩ => ⟨S256x7168, .bf16⟩
  | .local _ .vmem, ⟨15, _⟩ => ⟨S16x512, .f32⟩
  | .local _ .vmem, ⟨16, _⟩ => ⟨S256x576, .fp8e5m2⟩
  | .local _ .vmem, ⟨17, _⟩ => ⟨S256x576, .fp8e5m2⟩
  | .local _ .vmem, ⟨18, _⟩ => ⟨S256x5, .f32⟩
  | .local _ .vmem, ⟨19, _⟩ => ⟨S256x5, .f32⟩
  | .local _ .vmem, ⟨20, _⟩ => ⟨S7168x576, .bf16⟩
  | .local _ .smem, ⟨0, _⟩ => ⟨S56x5, .f32⟩
  | _, _ => ⟨S2x1024x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v20_2 : Ref sig .tc := ⟨.hbm, 35, rfl⟩
abbrev main_v20_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![8], ![false]⟩

def k0_off1 (i : grid0.Coords) (c0_i32_67 : BitVec 32) : Fin 2 → Nat :=
  let arg0 : BitVec 32 := BitVec.ofNat 32 (i 0).val
  let c2_i32 : BitVec 32 := 2#32
  let v364 : BitVec 32 := Scalar.muli arg0 c2_i32
  let v365 : BitVec 32 := Scalar.addi v364 c0_i32_67
  let v366 : Index := Scalar.indexCast v365
  let c0_68 : Index := 0#32
  ![v366.toNat, 0]
def k0_off2 (i : grid0.Coords) : Fin 2 → Nat :=
  let arg0 : BitVec 32 := BitVec.ofNat 32 (i 0).val
  let c0_i32_76 : BitVec 32 := 0#32
  let v393 : BitVec 1 := Scalar.cmpi .sgt arg0 c0_i32_76
  let v394 : BitVec 32 := Scalar.extui v393
  let c0_i32_77 : BitVec 32 := 0#32
  let v395 : BitVec 1 := Scalar.cmpi .slt arg0 c0_i32_77
  let v396 : BitVec 32 := Scalar.extui v395
  let v397 : BitVec 32 := Scalar.subi v394 v396
  let c4_i32 : BitVec 32 := 4#32
  let c0_i32_78 : BitVec 32 := 0#32
  let v398 : BitVec 1 := Scalar.cmpi .sgt c4_i32 c0_i32_78
  let v399 : BitVec 32 := Scalar.extui v398
  let c0_i32_79 : BitVec 32 := 0#32
  let v400 : BitVec 1 := Scalar.cmpi .slt c4_i32 c0_i32_79
  let v401 : BitVec 32 := Scalar.extui v400
  let v402 : BitVec 32 := Scalar.subi v399 v401
  let v403 : BitVec 1 := Scalar.cmpi .ne v397 v402
  let v404 : BitVec 32 := Scalar.remsi arg0 c4_i32
  let c0_i32_80 : BitVec 32 := 0#32
  let v405 : BitVec 1 := Scalar.cmpi .ne v404 c0_i32_80
  let v406 : BitVec 1 := Scalar.andi v403 v405
  let v392 : BitVec 32 := Scalar.divsi arg0 c4_i32
  let c1_i32_81 : BitVec 32 := 1#32
  let v407 : BitVec 32 := Scalar.subi v392 c1_i32_81
  let v408 : BitVec 32 := Scalar.select v406 v407 v392
  let v409 : Index := Scalar.indexCast v408
  let c0_82 : Index := 0#32
  ![v409.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let v0 : BitVec 32 := Scalar.remsi arg0 c4_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7168x576 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S56x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x7168 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S16x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x576 .fp8e5m2 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x5 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S2x1024x7168 : Shape := ⟨3, ![2, 1024, 7168]⟩
abbrev S2x1024x56 : Shape := ⟨3, ![2, 1024, 56]⟩
abbrev S7168x576 : Shape := ⟨2, ![7168, 576]⟩
abbrev S56x5 : Shape := ⟨2, ![56, 5]⟩
abbrev S512 : Shape := ⟨1, ![512]⟩
abbrev S2x1024 : Shape := ⟨2, ![2, 1024]⟩
abbrev S2x1024x512 : Shape := ⟨3, ![2, 1024, 512]⟩
abbrev S2x1024x64 : Shape := ⟨3, ![2, 1024, 64]⟩
abbrev S32 : Shape := ⟨1, ![32]⟩
abbrev S_ : Shape := ⟨0, ![]⟩
abbrev S2x1024x1 : Shape := ⟨3, ![2, 1024, 1]⟩
abbrev S1x1x32 : Shape := ⟨3, ![1, 1, 32]⟩
abbrev S2x1024x32 : Shape := ⟨3, ![2, 1024, 32]⟩
abbrev S2x1024x32x2 : Shape := ⟨4, ![2, 1024, 32, 2]⟩
abbrev S2x1024x32x1 : Shape := ⟨4, ![2, 1024, 32, 1]⟩
abbrev S2048x64 : Shape := ⟨2, ![2048, 64]⟩
abbrev S2048x56x1 : Shape := ⟨3, ![2048, 56, 1]⟩
abbrev S2048x56x128 : Shape := ⟨3, ![2048, 56, 128]⟩
abbrev S2048x7168 : Shape := ⟨2, ![2048, 7168]⟩
abbrev S56x1x5x1 : Shape := ⟨4, ![56, 1, 5, 1]⟩
abbrev S56x128x5x128 : Shape := ⟨4, ![56, 128, 5, 128]⟩
abbrev S7168x640 : Shape := ⟨2, ![7168, 640]⟩
abbrev S1x512 : Shape := ⟨2, ![1, 512]⟩
abbrev S2048x512 : Shape := ⟨2, ![2048, 512]⟩
abbrev S16x512 : Shape := ⟨2, ![16, 512]⟩
abbrev S2048x576 : Shape := ⟨2, ![2048, 576]⟩
abbrev S2048x5 : Shape := ⟨2, ![2048, 5]⟩
abbrev S7168x512 : Shape := ⟨2, ![7168, 512]⟩
abbrev S2048 : Shape := ⟨1, ![2048]⟩
abbrev S2048x1 : Shape := ⟨2, ![2048, 1]⟩
abbrev S16x128x512 : Shape := ⟨3, ![16, 128, 512]⟩
abbrev S2048x128 : Shape := ⟨2, ![2048, 128]⟩
abbrev S1x1x256 : Shape := ⟨3, ![1, 1, 256]⟩
abbrev S2048x5x1 : Shape := ⟨3, ![2048, 5, 1]⟩
abbrev S2048x5x256 : Shape := ⟨3, ![2048, 5, 256]⟩

abbrev nBuf : Space → Nat
  | .hbm => 65
  | .vmem => 11
  | .smem => 0
  | _ => 0

abbrev bufTy : (tb : Table) → Fin (tcTables nBuf tb) → BufTy
  | .hbm, ⟨0, _⟩ => ⟨S2x1024x7168, .fp8e4m3⟩
  | .hbm, ⟨1, _⟩ => ⟨S2x1024x56, .f32⟩
  | .hbm, ⟨2, _⟩ => ⟨S7168x576, .fp8e4m3⟩
  | .hbm, ⟨3, _⟩ => ⟨S56x5, .f32⟩
  | .hbm, ⟨4, _⟩ => ⟨S512, .f32⟩
  | .hbm, ⟨5, _⟩ => ⟨S2x1024, .i32⟩
  | .hbm, ⟨6, _⟩ => ⟨S2x1024x512, .bf16⟩
  | .hbm, ⟨7, _⟩ => ⟨S2x1024x64, .bf16⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S2x1024, .f32⟩
  | .hbm, ⟨25, _⟩ => ⟨S2x1024x1, .f32⟩
  | .hbm, ⟨26, _⟩ => ⟨S1x1x32, .f32⟩
  | .hbm, ⟨27, _⟩ => ⟨S2x1024x32, .f32⟩
  | .hbm, ⟨28, _⟩ => ⟨S2x1024x32, .f32⟩
  | .hbm, ⟨29, _⟩ => ⟨S2x1024x32, .f32⟩
  | .hbm, ⟨30, _⟩ => ⟨S2x1024x32, .f32⟩
  | .hbm, ⟨31, _⟩ => ⟨S2x1024x32, .f32⟩
  | .hbm, ⟨32, _⟩ => ⟨S2x1024x64, .f32⟩
  | .hbm, ⟨33, _⟩ => ⟨S2x1024x32x2, .f32⟩
  | .hbm, ⟨34, _⟩ => ⟨S2x1024x32x1, .f32⟩
  | .hbm, ⟨35, _⟩ => ⟨S2x1024x32, .f32⟩
  | .hbm, ⟨36, _⟩ => ⟨S2x1024x32x1, .f32⟩
  | .hbm, ⟨37, _⟩ => ⟨S2x1024x32, .f32⟩
  | .hbm, ⟨38, _⟩ => ⟨S2x1024x32, .f32⟩
  | .hbm, ⟨39, _⟩ => ⟨S2x1024x32, .f32⟩
  | .hbm, ⟨40, _⟩ => ⟨S2x1024x32, .f32⟩
  | .hbm, ⟨41, _⟩ => ⟨S2x1024x32, .f32⟩
  | .hbm, ⟨42, _⟩ => ⟨S2x1024x32, .f32⟩
  | .hbm, ⟨43, _⟩ => ⟨S2x1024x32, .f32⟩
  | .hbm, ⟨44, _⟩ => ⟨S2x1024x32, .f32⟩
  | .hbm, ⟨45, _⟩ => ⟨S2x1024x32x1, .f32⟩
  | .hbm, ⟨46, _⟩ => ⟨S2x1024x32x1, .f32⟩
  | .hbm, ⟨47, _⟩ => ⟨S2x1024x32x2, .f32⟩
  | .hbm, ⟨48, _⟩ => ⟨S2048x64, .f32⟩
  | .hbm, ⟨49, _⟩ => ⟨S2x1024x56, .bf16⟩
  | .hbm, ⟨50, _⟩ => ⟨S2048x56x1, .bf16⟩
  | .hbm, ⟨51, _⟩ => ⟨S2048x56x128, .bf16⟩
  | .hbm, ⟨52, _⟩ => ⟨S2048x7168, .bf16⟩
  | .hbm, ⟨53, _⟩ => ⟨S56x5, .bf16⟩
  | .hbm, ⟨54, _⟩ => ⟨S56x1x5x1, .bf16⟩
  | .hbm, ⟨55, _⟩ => ⟨S56x128x5x128, .bf16⟩
  | .hbm, ⟨56, _⟩ => ⟨S7168x640, .bf16⟩
  | .hbm, ⟨57, _⟩ => ⟨S7168x576, .bf16⟩
  | .hbm, ⟨58, _⟩ => ⟨S2048x7168, .fp8e4m3⟩
  | .hbm, ⟨59, _⟩ => ⟨S1x512, .f32⟩
  | .hbm, ⟨60, _⟩ => ⟨S2048x512, .bf16⟩
  | .hbm, ⟨61, _⟩ => ⟨S2048x7168, .bf16⟩
  | .hbm, ⟨62, _⟩ => ⟨S16x512, .f32⟩
  | .hbm, ⟨63, _⟩ => ⟨S2048x576, .fp8e5m2⟩
  | .hbm, ⟨64, _⟩ => ⟨S2048x5, .f32⟩
  | .local _ .vmem, ⟨0, _⟩ => ⟨S2048x7168, .fp8e4m3⟩
  | .local _ .vmem, ⟨1, _⟩ => ⟨S2048x7168, .bf16⟩
  | .local _ .vmem, ⟨2, _⟩ => ⟨S7168x576, .fp8e4m3⟩
  | .local _ .vmem, ⟨3, _⟩ => ⟨S7168x576, .bf16⟩
  | .local _ .vmem, ⟨4, _⟩ => ⟨S1x512, .f32⟩
  | .local _ .vmem, ⟨5, _⟩ => ⟨S2048x512, .bf16⟩
  | .local _ .vmem, ⟨6, _⟩ => ⟨S2048x64, .f32⟩
  | .local _ .vmem, ⟨7, _⟩ => ⟨S2048x7168, .bf16⟩
  | .local _ .vmem, ⟨8, _⟩ => ⟨S16x512, .f32⟩
  | .local _ .vmem, ⟨9, _⟩ => ⟨S2048x576, .fp8e5m2⟩
  | .local _ .vmem, ⟨10, _⟩ => ⟨S2048x5, .f32⟩
  | _, _ => ⟨S2x1024x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48_0 : Ref sig .tc := ⟨.hbm, 61, rfl⟩
abbrev main_v48_1 : Ref sig .tc := ⟨.hbm, 62, rfl⟩
abbrev main_v48_2 : Ref sig .tc := ⟨.hbm, 63, rfl⟩
abbrev main_v48_3 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2048x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x576 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168x576 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x7168 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x576 .fp8e5m2 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x5 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.K.Runs.lean ====
/- What the run of the kernel's body is stated over, for the frame of the kernel in machine words: the frame post read off
   relational proof data, the branch condition in closed form, the staging memrefs, and the invariant. -/
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c),
      (Pipeline.RDat.FramePost.arr_in h c 5 rfl).trans ((hA c 5).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: the memrefs it is called with -/

/-- Each window's current staging memref at point `t`, spelled as the pipeline passes it (`bodyAt0`), and its wholeness. -/
abbrev ms0_0 (t : Fin cfg0.N) : Memref sig .tc .vmem S256x7168 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x56 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7168x576 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S56x5 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x256 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x64 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x7168 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S16x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x576 .fp8e5m2 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x5 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S7168x576 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
/- The body's run at the first point, where it fills the scratch. Only that it runs, and that it leaves its inputs as they
   were, is stated: the outputs end at some contents. -/
module

public import proofs.«01_k».proof.Proof.K.Runs

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 6948000 in
/-- The body's triple IN CASE A (`scf.if` 0 taken: points 0): on whole staging memrefs — the inputs' at their contents,
    the FORGOTTEN outputs' (9, 10, 11, 12) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S256x7168 .fp8e4m3) (harg1 : arg1.IsWhole) (arg2 : Memref sig .tc .vmem S256x56 .f32) (harg2 : arg2.IsWhole) (arg3 : Memref sig .tc .vmem S7168x576 .fp8e4m3) (harg3 : arg3.IsWhole) (arg4 : Memref sig .tc .smem S56x5 .f32) (harg4 : arg4.IsWhole) (arg5 : Memref sig .tc .vmem S1x512 .f32) (harg5 : arg5.IsWhole) (arg6 : Memref sig .tc .vmem S2x256 .i32) (harg6 : arg6.IsWhole) (arg7 : Memref sig .tc .vmem S64x256 .f32) (harg7 : arg7.IsWhole) (arg8 : Memref sig .tc .vmem S256x512 .bf16) (harg8 : arg8.IsWhole) (arg9 : Memref sig .tc .vmem S256x64 .bf16) (harg9 : arg9.IsWhole) (arg10 : Memref sig .tc .vmem S256x7168 .bf16) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S7168x576 .bf16) (harg14 : arg14.IsWhole) (hc0 : cond0_0 i)
    (x0 : Vec F S256x7168 .fp8e4m3) (x1 : Vec F S256x56 .f32) (x2 : Vec F S7168x576 .fp8e4m3) (x3 : Vec F S56x5 .f32) (x4 : Vec F S1x512 .f32) (x5 : Vec F S2x256 .i32) (x6 : Vec F S64x256 .f32) (x7 : Vec F S256x512 .bf16) (x8 : Vec F S256x64 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_mla_kv_bwd_eq_skeleton]; unfold cc0_mla_kv_bwd_skel
    simp only [k0_part76_eq_skeleton, k0_part75_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact HS0
    ipureintro; rfl

end Cert.Kernel.Hand

end
-- ==== Proof.K.RunB.lean ====
/- The body's run at every later point, where the scratch is already filled. Only that it runs, and that it leaves its inputs
   as they were, is stated: the outputs end at some contents. -/
module

public import proofs.«01_k».proof.Proof.K.RunA

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 7: 7 of 8): on whole staging memrefs — the inputs' at their contents,
    the FORGOTTEN outputs' (9, 10, 11, 12) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S256x7168 .fp8e4m3) (harg1 : arg1.IsWhole) (arg2 : Memref sig .tc .vmem S256x56 .f32) (harg2 : arg2.IsWhole) (arg3 : Memref sig .tc .vmem S7168x576 .fp8e4m3) (harg3 : arg3.IsWhole) (arg4 : Memref sig .tc .smem S56x5 .f32) (harg4 : arg4.IsWhole) (arg5 : Memref sig .tc .vmem S1x512 .f32) (harg5 : arg5.IsWhole) (arg6 : Memref sig .tc .vmem S2x256 .i32) (harg6 : arg6.IsWhole) (arg7 : Memref sig .tc .vmem S64x256 .f32) (harg7 : arg7.IsWhole) (arg8 : Memref sig .tc .vmem S256x512 .bf16) (harg8 : arg8.IsWhole) (arg9 : Memref sig .tc .vmem S256x64 .bf16) (harg9 : arg9.IsWhole) (arg10 : Memref sig .tc .vmem S256x7168 .bf16) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S7168x576 .bf16) (harg14 : arg14.IsWhole) (hc0 : ¬cond0_0 i)
    (x0 : Vec F S256x7168 .fp8e4m3) (x1 : Vec F S256x56 .f32) (x2 : Vec F S7168x576 .fp8e4m3) (x3 : Vec F S56x5 .f32) (x4 : Vec F S1x512 .f32) (x5 : Vec F S2x256 .i32) (x6 : Vec F S64x256 .f32) (x7 : Vec F S256x512 .bf16) (x8 : Vec F S256x64 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_mla_kv_bwd_eq_skeleton]; unfold cc0_mla_kv_bwd_skel
    simp only [k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact HS0
    ipureintro; rfl

end Cert.Kernel.Hand

end
-- ==== Proof.K.Frame.lean ====
/- The frame of the kernel in machine words: it terminates, its arguments end unchanged and every counter ends at zero. What it
   leaves in its outputs is not named here. -/
module

public import proofs.«01_k».proof.Proof.K.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (9, 10, 11, 12): nothing reads what the kernel leaves in them, so nothing
    of it is named (Lib/Pipeline/Dat.lean `Dat.toRForget`). -/
def forgets0 : Fin 13 → Bool := fun w => w.val == 9 || w.val == 10 || w.val == 11 || w.val == 12

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  have hN : t.val < 8 := lt_of_lt_of_eq t.isLt (show cfg0.N = 8 from N_0)
  by_cases h0 : t.val % 8 = 0
  · iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [HS0]; · iexact HS0
    iintro ⟨H0, H1, H2, H3, H4, H5, H6, H7, H8, H9, H10, H11, H12, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [HS0]; · iexact HS0
    iintro ⟨H0, H1, H2, H3, H4, H5, H6, H7, H8, H9, H10, H11, H12, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 9, 10, 11, 12) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Hand.facts, fun m ρ _ => Cert.Kernel.Hand.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Hand

end
-- ==== Proof.KI.Runs.lean ====
/- What the run of the exact-arithmetic kernel's body is stated over: the frame post read off relational proof data, the
   branch condition in closed form, the staging memrefs, and the invariant with the scratch buffer as a memref. -/
module

public import proofs.«01_k».proof.Proof.Gen.KernelIdeal.Frame
public import proofs.«01_k».proof.Proof.Gen.KernelIdeal.Skeleton
public import Idealize.ShloMosaic.Lib.Pipeline.DatRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the pipeline the argument arrays are as they were. -/
theorem kept (rdat : (c : Dev nD) → Pipeline.RDat τ (Elt F) Unit ℕ (UR sig nD τ) ℕ (cfgs 0) c)
    (hA : ∀ c w, (rdat c).A w = V m c (Pipeline.arrRef spec0 w)) (r : PUnit × MemSt nD τ sig (Elt F))
    (h : Pipeline.RDat.FramePost (cfgs 0) rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c),
      (Pipeline.RDat.FramePost.arr_in h c 5 rfl).trans ((hA c 5).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`the frame claim`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => kept m rdat hA r h c) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The staging memrefs -/

/-- Each window's current staging memref at point `t`, spelled as the pipeline passes it (`bodyAt0`), and its wholeness. -/
abbrev ms0_0 (t : Fin cfg0.N) : Memref sig .tc .vmem S256x7168 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x56 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7168x576 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S56x5 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x256 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x64 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x7168 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S16x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x576 .fp8e5m2 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x5 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S7168x576 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.Fill.lean ====
/- The body's first part: at the first point it fills the scratch with the dequantised weight, block by block; at every
   later point the scratch holds it already. Either way the part leaves the same scratch, so the rest of the body is run once. -/
module

public import proofs.«01_k».proof.Proof.KI.Runs
public import Idealize.ShloMosaic.Lib.Pipeline.ReadBack
public import Idealize.ShloMosaic.Lib.WholeRead
public import Idealize.ShloMosaic.Lib.Pointwise.Index

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The dequantised weight: each fp8 element times its block's scale, in bf16 as the kernel computes it. -/
def Wf (x2 : Vec F S7168x576 .fp8e4m3) (x3 : Vec F S56x5 .f32) : Vec F S7168x576 .bf16 := fun j =>
  FloatOps.mulf (FloatOps.extf .bf16 bitsLt_fp8e4m3_bf16 (x2 j)) (Scalar.truncf .bf16 bitsLt_bf16_f32 (x3 (blk j)))
where
  /-- The scale block an element of the weight lies in. -/
  blk (j : S7168x576.Idx) : S56x5.Idx :=
    ix2 (n0 := 56) (n1 := 5) ⟨(j 0).val / 128, by have h : (j 0).val < 7168 := (j 0).isLt; omega⟩
      ⟨(j 1).val / 128, by have h : (j 1).val < 576 := (j 1).isLt; omega⟩

/-- One stored block is a block of `Wf`: the block of the weight at `(128 a, 128 b)`, times the scale at `(a, b)`. -/
theorem fill_piece (x2 : Vec F S7168x576 .fp8e4m3) (x3 : Vec F S56x5 .f32) (w : ℕ) (hw : w ≤ 128) (o0 o1 a b : ℕ)
    (h0 : o0 = 128 * a) (h1 : o1 = 128 * b)
    (inb : ∀ d, (![o0, o1] : Fin 2 → ℕ) d + (⟨2, ![128, w]⟩ : Shape).size d ≤ S7168x576.size d)
    (inb' : ∀ d, (![a, b] : Fin 2 → ℕ) d + S1x1.size d ≤ S56x5.size d) (y : (Rect.unit (s := S56x5) ![a, b] S1x1.size inb').shape.Idx)
    (hs : (⟨2, ![128, w]⟩ : Shape).ShapeCasts ⟨2, ![128, w]⟩) (x : (⟨2, ![128, w]⟩ : Shape).Idx) :
    (shapeCast ⟨2, ![128, w]⟩ (mulf (extf .bf16 (View.ld x2
        (Rect.unit (s := S7168x576) ![o0, o1] (⟨2, ![128, w]⟩ : Shape).size inb) : FVec F ⟨2, ![128, w]⟩ .fp8e4m3) bitsLt_fp8e4m3_bf16)
      (broadcast ⟨2, ![128, w]⟩ (Scalar.truncf .bf16 bitsLt_bf16_f32 (View.ld x3
        (Rect.unit (s := S56x5) ![a, b] S1x1.size inb') y)))) hs : FVec F ⟨2, ![128, w]⟩ .bf16) x
      = Wf x2 x3 ((Rect.unit (s := S7168x576) ![o0, o1] (⟨2, ![128, w]⟩ : Shape).size inb).emb x) := by
  refine (congrFun (shapeCast_self (s := ⟨2, ![128, w]⟩) _ hs) x).trans ?_
  subst h0 h1
  have hx0 : (x 0).val < 128 := (x 0).isLt
  have hx1 : (x 1).val < w := (x 1).isLt
  have hy0 : (y 0).val < 1 := (y 0).isLt
  have hy1 : (y 1).val < 1 := (y 1).isLt
  have hblk : Wf.blk ((Rect.unit (s := S7168x576) ![128 * a, 128 * b] (⟨2, ![128, w]⟩ : Shape).size inb).emb x)
      = (Rect.unit (s := S56x5) ![a, b] S1x1.size inb').idx y := by
    funext d
    match d with
    | ⟨0, _⟩ =>
      apply Fin.ext
      show (128 * a + 1 * (x 0).val) / 128 = a + 1 * (y 0).val
      omega
    | ⟨1, _⟩ =>
      apply Fin.ext
      show (128 * b + 1 * (x 1).val) / 128 = b + 1 * (y 1).val
      omega
  unfold Wf
  rw [hblk]
  rfl

/-- A held whole buffer, by what it reads. -/
theorem held_unread (c : Dev nD) {sp : Space} {s : Shape} {e : EltTy} (a : Memref sig .tc sp s e) (ha : a.IsWhole) (X : s.Idx → Elt F e) :
    (iprop(∃ f, ⌜a.view.read (Elt F) f = X⌝ ∗ (a.view.loc (c : Thread nD τ) ↦[a.view.set]{fullShare} f)) : sProp 𝕄)
      ⊢ (a.view.loc (c : Thread nD τ) ↦[a.view.set]{fullShare} ha.unread X) := by
  iintro ⟨%f, %h, H⟩
  obtain rfl := ha.eq_unread h
  iexact H

set_option maxHeartbeats 8000000 in
/-- The first part leaves the scratch at the dequantised weight and hands on the scales of the activations, rounded, and the
    first six dequantised column blocks. -/
theorem part76_spec (c : Dev nD) (i : grid0.Coords) (arg1 : Memref sig .tc .vmem S256x7168 .fp8e4m3) (harg1 : arg1.IsWhole) (arg2 : Memref sig .tc .vmem S256x56 .f32) (harg2 : arg2.IsWhole) (arg3 : Memref sig .tc .vmem S7168x576 .fp8e4m3) (harg3 : arg3.IsWhole) (arg4 : Memref sig .tc .smem S56x5 .f32) (harg4 : arg4.IsWhole) (arg5 : Memref sig .tc .vmem S1x512 .f32) (harg5 : arg5.IsWhole) (arg6 : Memref sig .tc .vmem S2x256 .i32) (harg6 : arg6.IsWhole) (arg7 : Memref sig .tc .vmem S64x256 .f32) (harg7 : arg7.IsWhole) (arg8 : Memref sig .tc .vmem S256x512 .bf16) (harg8 : arg8.IsWhole) (arg9 : Memref sig .tc .vmem S256x64 .bf16) (harg9 : arg9.IsWhole) (arg10 : Memref sig .tc .vmem S256x7168 .bf16) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S7168x576 .bf16) (harg14 : arg14.IsWhole)
    (x0 : Vec F S256x7168 .fp8e4m3) (x1 : Vec F S256x56 .f32) (x2 : Vec F S7168x576 .fp8e4m3) (x3 : Vec F S56x5 .f32)
    (f14 : arg14.view.ty.Contents (Elt F)) (hS : ¬ cond0_0 i → arg14.view.read (Elt F) f14 = Wf x2 x3) (E : Set ℕ) :
    (iprop((arg1.view.loc (c : Thread nD τ) ↦[arg1.view.set]{fullShare} harg1.unread x0)
      ∗ (arg2.view.loc (c : Thread nD τ) ↦[arg2.view.set]{fullShare} harg2.unread x1)
      ∗ (arg3.view.loc (c : Thread nD τ) ↦[arg3.view.set]{fullShare} harg3.unread x2)
      ∗ (arg4.view.loc (c : Thread nD τ) ↦[arg4.view.set]{fullShare} harg4.unread x3)
      ∗ (arg14.view.loc (c : Thread nD τ) ↦[arg14.view.set]{fullShare} f14)) : sProp 𝕄)
      ⊢ wp frame (wpE (defs₀ (F := F)) Variants.none c none) E (k0_part76 i arg1 harg1 arg2 harg2 arg3 harg3 arg4 harg4 arg5 harg5 arg6 harg6 arg7 harg7 arg8 harg8 arg9 harg9 arg10 harg10 arg11 harg11 arg12 harg12 arg13 harg13 arg14 harg14) fun r => iprop(
        ⌜r.1 = BitVec.ofNat 32 (i 0).val⌝
        ∗ ⌜r.2.1 = k0_pay359 (View.ld x1 (Rect.unit (s := S256x56) ![0, 0] S256x56.size inb_S256x56_S256x56_0_0))⌝
        ∗ ⌜r.2.2.1 = k0_pay360 (View.ld x1 (Rect.unit (s := S256x56) ![0, 0] S256x56.size inb_S256x56_S256x56_0_0)) (View.ld x0 (Rect.unit (s := S256x7168) ![0, 0] S256x128.size inb_S256x7168_S256x128_0_0))⌝
        ∗ ⌜r.2.2.2.1 = k0_pay361 (View.ld x1 (Rect.unit (s := S256x56) ![0, 0] S256x56.size inb_S256x56_S256x56_0_0)) (View.ld x0 (Rect.unit (s := S256x7168) ![0, 128] S256x128.size inb_S256x7168_S256x128_0_128))⌝
        ∗ ⌜r.2.2.2.2.1 = k0_pay362 (View.ld x1 (Rect.unit (s := S256x56) ![0, 0] S256x56.size inb_S256x56_S256x56_0_0)) (View.ld x0 (Rect.unit (s := S256x7168) ![0, 256] S256x128.size inb_S256x7168_S256x128_0_256))⌝
        ∗ ⌜r.2.2.2.2.2.1 = k0_pay363 (View.ld x1 (Rect.unit (s := S256x56) ![0, 0] S256x56.size inb_S256x56_S256x56_0_0)) (View.ld x0 (Rect.unit (s := S256x7168) ![0, 384] S256x128.size inb_S256x7168_S256x128_0_384))⌝
        ∗ ⌜r.2.2.2.2.2.2.1 = k0_pay364 (View.ld x1 (Rect.unit (s := S256x56) ![0, 0] S256x56.size inb_S256x56_S256x56_0_0)) (View.ld x0 (Rect.unit (s := S256x7168) ![0, 512] S256x128.size inb_S256x7168_S256x128_0_512))⌝
        ∗ ⌜r.2.2.2.2.2.2.2 = k0_pay365 (View.ld x1 (Rect.unit (s := S256x56) ![0, 0] S256x56.size inb_S256x56_S256x56_0_0)) (View.ld x0 (Rect.unit (s := S256x7168) ![0, 640] S256x128.size inb_S256x7168_S256x128_0_640))⌝
        ∗ (arg1.view.loc (c : Thread nD τ) ↦[arg1.view.set]{fullShare} harg1.unread x0)
        ∗ (arg2.view.loc (c : Thread nD τ) ↦[arg2.view.set]{fullShare} harg2.unread x1)
        ∗ (arg3.view.loc (c : Thread nD τ) ↦[arg3.view.set]{fullShare} harg3.unread x2)
        ∗ (arg4.view.loc (c : Thread nD τ) ↦[arg4.view.set]{fullShare} harg4.unread x3)
        ∗ (arg14.view.loc (c : Thread nD τ) ↦[arg14.view.set]{fullShare} harg14.unread (Wf x2 x3))) := by
  have rd0 : ∀ (R : Rect S256x7168), View.readAt (Elt F) arg1.view R.toLoadRect (harg1.unread x0) = View.ld x0 R := fun R => by
    rw [View.readAt_eq_ld, harg1.read_unread]
  have rd1 : ∀ (R : Rect S256x56), View.readAt (Elt F) arg2.view R.toLoadRect (harg2.unread x1) = View.ld x1 R := fun R => by
    rw [View.readAt_eq_ld, harg2.read_unread]
  have rd2 : ∀ (R : Rect S7168x576), View.readAt (Elt F) arg3.view R.toLoadRect (harg3.unread x2) = View.ld x2 R := fun R => by
    rw [View.readAt_eq_ld, harg3.read_unread]
  have rd3 : ∀ (R : Rect S56x5), View.readAt (Elt F) arg4.view R.toLoadRect (harg4.unread x3) = View.ld x3 R := fun R => by
    rw [View.readAt_eq_ld, harg4.read_unread]
  by_cases hc0 : cond0_0 i
  · simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton]; unfold k0_part76_skel
    iintro ⟨H0, H1, H2, H3, HS⟩
    sl_exec (disch := first | sl_exact hc0)
    sl_step
    repeat (isplitr; · ipureintro; rfl)
    isplitl [H0]; · iexact H0
    isplitl [H1]; · iexact H1
    isplitl [H2]; · iexact H2
    isplitl [H3]; · iexact H3
    iapply held_unread
    iexists _; isplitr; swap; · iexact HS
    ipureintro
    refine funext fun y => View.read_writes_apply_of_pieces _ _ (Wf x2 x3) _ (View.PiecesOf.mem ?_) y
      (View.cover_of_tiledBy _ ![128, 64] (by sl_kernel_rfl) y)
    repeat first
      | exact trivial
      | refine ⟨fun x => fill_piece x2 x3 128 (by omega) _ _ _ _ (by rfl) (by rfl) _ _ _ _ x, ?_⟩
      | refine ⟨fun x => fill_piece x2 x3 64 (by omega) _ _ _ _ (by rfl) (by rfl) _ _ _ _ x, ?_⟩
  · rw [k0_part76_eq_skeleton]; unfold k0_part76_skel
    iintro ⟨H0, H1, H2, H3, HS⟩
    sl_exec (disch := first | sl_exact hc0)
    sl_step
    repeat (isplitr; · ipureintro; rfl)
    isplitl [H0]; · iexact H0
    isplitl [H1]; · iexact H1
    isplitl [H2]; · iexact H2
    isplitl [H3]; · iexact H3
    iapply held_unread
    iexists _; isplitr; swap; · iexact HS
    ipureintro
    exact hS hc0

end Cert.KernelIdeal.Hand

end
-- ==== Proof.KI.Ops.lean ====
/- The kernel body's arithmetic as a few named operations on blocks: the dequantised activations, the latent, its mean square,
   the two gradients, the power-of-two scale of a column and the codes under it. -/
module

public import proofs.«01_k».proof.Proof.KI.Fill

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The dequantised activations: each fp8 element times its row's scale for its block of 128 columns. -/
def xwF (x0 : Vec F S256x7168 .fp8e4m3) (x1 : Vec F S256x56 .f32) : FVec F S256x7168 .bf16 := fun j =>
  FloatOps.mulf (FloatOps.extf .bf16 bitsLt_fp8e4m3_bf16 (x0 j)) (FloatOps.truncf .bf16 bitsLt_bf16_f32 (x1 (sc j)))
where
  /-- The scale an element of the activations has. -/
  sc (j : S256x7168.Idx) : S256x56.Idx :=
    ix2 (n0 := 256) (n1 := 56) (j 0) ⟨(j 1).val / 128, by have h : (j 1).val < 7168 := (j 1).isLt; omega⟩

/-- The latent: activations times weight, rounded to bf16. -/
def latF (xw : FVec F S256x7168 .bf16) (w : FVec F S7168x512 .bf16) : FVec F S256x512 .f32 :=
  extf .f32 (truncf .bf16 (matmul dot_S256x7168_S7168x512_S256x512_1_0_0_1_n_n none xw w
    (constant S256x512 .f32 0x00000000#32)) bitsLt_bf16_f32) bitsLt_bf16_f32

/-- The latent's mean square, row by row. -/
def msF (c : FVec F S256x512 .f32) : FVec F S256x1 .f32 :=
  mulf (shapeCast S256x1 (multiReduction .add [1] S256 (mulf c c) 0x00000000#32 reduces_S256x512_S256 (.inl rfl) rfl)
    shapeCasts_S256_S256x1) (broadcast S256x1 (Scalar.ofBits .f32 0x3B000000#32))

/-- A scalar constant in every row. -/
def kF (b : BitVec 32) : FVec F S256x1 .f32 := broadcast S256x1 (Scalar.ofBits .f32 b)

/-- Does the search's current power `p`, times the step's factor, still lie at or below `q`? -/
def geF (q p : FVec F S256x1 .f32) (k : BitVec 32) : IVec S256x1 1 := cmpf .oge q (mulf p (kF k))

/-- One step of the search for the power: take the factor if the product still lies at or below `q`. -/
def stepF (q p d : FVec F S256x1 .f32) (k l : BitVec 32) : FVec F S256x1 .f32 := select (geF q p k) (mulf d (kF l)) d

def bigF (q : FVec F S256x1 .f32) : IVec S256x1 1 := cmpf .oge q (kF 0x40800000#32)
def p0F (q : FVec F S256x1 .f32) : FVec F S256x1 .f32 := select (bigF q) (kF 0x40800000#32) (kF 0x00800000#32)
def p1F (q : FVec F S256x1 .f32) : FVec F S256x1 .f32 := stepF q (p0F q) (p0F q) 0x5F800000#32 0x5F800000#32
def p2F (q : FVec F S256x1 .f32) : FVec F S256x1 .f32 := stepF q (p1F q) (p1F q) 0x4F800000#32 0x4F800000#32
def p3F (q : FVec F S256x1 .f32) : FVec F S256x1 .f32 := stepF q (p2F q) (p2F q) 0x47800000#32 0x47800000#32
def p4F (q : FVec F S256x1 .f32) : FVec F S256x1 .f32 := stepF q (p3F q) (p3F q) 0x43800000#32 0x43800000#32
def p5F (q : FVec F S256x1 .f32) : FVec F S256x1 .f32 := stepF q (p4F q) (p4F q) 0x41800000#32 0x41800000#32
def p6F (q : FVec F S256x1 .f32) : FVec F S256x1 .f32 := stepF q (p5F q) (p5F q) 0x40800000#32 0x40800000#32
def p7F (q : FVec F S256x1 .f32) : FVec F S256x1 .f32 := stepF q (p6F q) (p6F q) 0x40000000#32 0x40000000#32
def d0F (q : FVec F S256x1 .f32) : FVec F S256x1 .f32 := select (bigF q) (kF 0x3E000000#32) (kF 0x7E000000#32)
def d1F (q : FVec F S256x1 .f32) : FVec F S256x1 .f32 := stepF q (p0F q) (d0F q) 0x5F800000#32 0x1F800000#32
def d2F (q : FVec F S256x1 .f32) : FVec F S256x1 .f32 := stepF q (p1F q) (d1F q) 0x4F800000#32 0x2F800000#32
def d3F (q : FVec F S256x1 .f32) : FVec F S256x1 .f32 := stepF q (p2F q) (d2F q) 0x47800000#32 0x37800000#32
def d4F (q : FVec F S256x1 .f32) : FVec F S256x1 .f32 := stepF q (p3F q) (d3F q) 0x43800000#32 0x3B800000#32
def d5F (q : FVec F S256x1 .f32) : FVec F S256x1 .f32 := stepF q (p4F q) (d4F q) 0x41800000#32 0x3D800000#32
def d6F (q : FVec F S256x1 .f32) : FVec F S256x1 .f32 := stepF q (p5F q) (d5F q) 0x40800000#32 0x3E800000#32
def d7F (q : FVec F S256x1 .f32) : FVec F S256x1 .f32 := stepF q (p6F q) (d6F q) 0x40000000#32 0x3F000000#32
def tinyF (q : FVec F S256x1 .f32) : IVec S256x1 1 := cmpf .olt q (kF 0x00800000#32)

/-- The power of two above `q`: the block's scale. -/
def upF (q : FVec F S256x1 .f32) : FVec F S256x1 .f32 := select (tinyF q) (kF 0x3F800000#32) (mulf (p7F q) (kF 0x40000000#32))

/-- Its reciprocal. -/
def downF (q : FVec F S256x1 .f32) : FVec F S256x1 .f32 := select (tinyF q) (kF 0x3F800000#32) (d7F q)

/-- The largest magnitude of a row of 128, over the largest fp8 number. -/
def qN (v : FVec F S256x128 .f32) : FVec F S256x1 .f32 :=
  mulf (shapeCast S256x1 (multiReduction .maximumf [1] S256 (absf v) 0xFF800000#32 reduces_S256x128_S256 (.inl rfl) rfl)
    shapeCasts_S256_S256x1) (kF 0x37924925#32)

/-- The largest magnitude of a row of 64, over the largest fp8 number. -/
def qK (v : FVec F S256x64 .f32) : FVec F S256x1 .f32 :=
  mulf (shapeCast S256x1 (multiReduction .maximumf [1] S256 (absf v) 0xFF800000#32 reduces_S256x64_S256 (.inl rfl) rfl)
    shapeCasts_S256_S256x1) (kF 0x37924925#32)

/-- The codes of a block of 128 columns. -/
def codeN (v : FVec F S256x128 .f32) : FVec F S256x128 .fp8e5m2 :=
  truncf .fp8e5m2 (minimumf (broadcast S256x128 (Scalar.ofBits .f32 0x47600000#32)) (maximumf (broadcast S256x128 (Scalar.ofBits .f32 0xC7600000#32))
    (mulf v (broadcastTo S256x128 (downF (qN v)) broadcasts_S256x1_S256x128)))) bitsLt_fp8e5m2_f32

/-- The codes of a block of 64 columns. -/
def codeK (v : FVec F S256x64 .f32) : FVec F S256x64 .fp8e5m2 :=
  truncf .fp8e5m2 (minimumf (broadcast S256x64 (Scalar.ofBits .f32 0x47600000#32)) (maximumf (broadcast S256x64 (Scalar.ofBits .f32 0xC7600000#32))
    (mulf v (broadcastTo S256x64 (downF (qK v)) broadcasts_S256x1_S256x64)))) bitsLt_fp8e5m2_f32

/-- The dequantised block of 128 columns. -/
def deqN (v : FVec F S256x128 .f32) : FVec F S256x128 .bf16 :=
  mulf (extf .bf16 (codeN v) bitsLt_fp8e5m2_bf16)
    (broadcastTo S256x128 (truncf .bf16 (upF (qN v)) bitsLt_bf16_f32) broadcasts_S256x1_S256x128)

/-- One column of the scales put in place. -/
def laneF (g : BitVec 32) (u : FVec F S256x1 .f32) (r : FVec F S256x5 .f32) : FVec F S256x5 .f32 :=
  select (cmpi .eq (iota .tc S256x5 32 [1] iota_S256x5_d1_w32) (broadcast S256x5 g))
    (broadcastTo S256x5 (shapeCast S256x1 u shapeCasts_S256x1_S256x1) broadcasts_S256x1_S256x5) r

/-- The rotary gradient turned back: `freq` and the tokens' positions give the angles. -/
def dkF (pos : Vec F S1x256 .i32) (fr : Vec F S64x256 .f32) (d : Vec F S256x64 .bf16) : FVec F S256x64 .f32 :=
  k0_pay432 (k0_pay423 pos fr) (k0_pay425 d) (k0_pay426 d) (k0_pay427 pos fr d) (Scalar.select (Scalar.cmpi .eq 2#32 0#32) 1#32 2#32)
    k0_pay428 k0_pay429 k0_pay430 k0_pay431

/-- One block of 1024 columns of the input gradient. -/
def dxF (g : FVec F S256x576 .bf16) (w : Vec F S1024x576 .bf16) : FVec F S256x1024 .bf16 :=
  truncf .bf16 (matmul dot_S256x576_S1024x576_S256x1024_1_1_0_0_n_n none g w (constant S256x1024 .f32 0x00000000#32)) bitsLt_bf16_f32

end Cert.KernelIdeal.Hand

end
-- ==== Proof.KI.Concat.lean ====
/- The activations are dequantised in 56 blocks of 128 columns and put side by side: together they are the activations
   dequantised element by element. -/
module

public import proofs.«01_k».proof.Proof.KI.Ops
public import Idealize.ShloMosaic.Lib.Pipeline.Value

@[expose] public section

set_option maxRecDepth 65536

noncomputable section

namespace Cert.KernelIdeal.Hand

open Idealize.ShloMosaic Idealize.ShloMosaic.TcCoe Idealize.ShloMosaic.Tactic
open Cert.KernelIdeal.Gen

variable {F : FTy → Type} [FloatOps F] {α : Type}

/-- Blocks of 128 columns, from block `k` on, hold what `G` has in their columns. -/
def BlocksOf (G : S256x7168.Idx → α) : ℕ → List ((s : Shape) × (s.Idx → α)) → Prop
  | _, [] => True
  | k, p :: ps => (∃ f : S256x128.Idx → α, p = ⟨S256x128, f⟩ ∧
      ∀ (x : S256x128.Idx) (j : S256x7168.Idx), (j 0).val = (x 0).val → (j 1).val = 128 * k + (x 1).val → f x = G j) ∧ BlocksOf G (k + 1) ps

theorem BlocksOf.get {G : S256x7168.Idx → α} : ∀ {k : ℕ} {xs : List ((s : Shape) × (s.Idx → α))}, BlocksOf G k xs →
    ∀ n (hn : n < xs.length), ∃ f : S256x128.Idx → α, xs[n] = ⟨S256x128, f⟩ ∧
      ∀ (x : S256x128.Idx) (j : S256x7168.Idx), (j 0).val = (x 0).val → (j 1).val = 128 * (k + n) + (x 1).val → f x = G j
  | k, p :: ps, h, 0, hn => h.1
  | k, p :: ps, h, n + 1, hn => by
    obtain ⟨f, hf, hx⟩ := BlocksOf.get h.2 n (by simpa using hn)
    exact ⟨f, hf, fun x j h0 h1 => hx x j h0 (by rw [h1]; omega)⟩

theorem BlocksOf.sum_take {G : S256x7168.Idx → α} (a : Fin 2) (ha : a = 1) : ∀ {k : ℕ} {xs : List ((s : Shape) × (s.Idx → α))}, BlocksOf G k xs →
    ∀ n, n ≤ xs.length → (((xs.take n).map (·.1)).map fun s => if h : s.rank = 2 then s.size (a.cast h.symm) else 0).sum = 128 * n
  | _, _, _, 0, _ => by simp
  | k, p :: ps, h, n + 1, hn => by
    obtain ⟨f, rfl, -⟩ := h.1
    have ih := BlocksOf.sum_take a ha h.2 n (by simpa using hn)
    subst ha
    simp only [List.take_succ_cons, List.map_cons, List.sum_cons]
    rw [ih]
    show 128 + 128 * n = _
    omega

/-- Blocks of `G` side by side are `G`. -/
theorem concatenate_of_blocks (G : S256x7168.Idx → α) (xs : List ((s : Shape) × (s.Idx → α)))
    (h : Shape.Concatenates (xs.map (·.1)) S256x7168 1) (hlen : xs.length = 56) (hb : BlocksOf G 0 xs) :
    concatenate S256x7168 1 xs h = G := by
  funext j
  have hj : (j 1).val < 7168 := (j 1).isLt
  have hk : (j 1).val / 128 < xs.length := by rw [hlen]; omega
  obtain ⟨f, hf, hx⟩ := hb.get _ hk
  refine (concatenate_apply_piece (t := S256x7168) 1 xs h j _ hk S256x128 f hf rfl _ (hb.sum_take 1 rfl _ hk.le)
    (ix2 (n0 := 256) (n1 := 128) (j 0) ⟨(j 1).val % 128, by omega⟩) ?_ ?_).trans (hx _ j rfl ?_)
  · intro b hb
    match b, hb with
    | ⟨0, _⟩, _ => rfl
    | ⟨1, _⟩, hb => exact absurd rfl hb
  · show 128 * ((j 1).val / 128) + (j 1).val % 128 = _
    omega
  · show (j 1).val = 128 * (0 + (j 1).val / 128) + (j 1).val % 128
    omega

/-- One block: 128 columns of the activations times their scale, spread over the columns. -/
theorem xw_block (x0 : Vec F S256x7168 .fp8e4m3) (x1 : Vec F S256x56 .f32) (o k : ℕ) (ho : o = 128 * k)
    (inb : ∀ d, (![0, o] : Fin 2 → ℕ) d + S256x128.size d ≤ S256x7168.size d)
    (inb1 : ∀ d, (![0, 0] : Fin 2 → ℕ) d + S256x56.size d ≤ S256x56.size d)
    (hs : S256x128.ShapeCasts S256x128) (hsl : S256x56.Slices ![0, k] S256x1) (hbr : S256x1.Broadcasts S256x128)
    (x : S256x128.Idx) (j : S256x7168.Idx) (h0 : (j 0).val = (x 0).val) (h1 : (j 1).val = 128 * k + (x 1).val) :
    (mulf (extf .bf16 (shapeCast S256x128 (View.ld x0 (Rect.unit (s := S256x7168) ![0, o] S256x128.size inb) : FVec F S256x128 .fp8e4m3) hs)
        bitsLt_fp8e4m3_bf16)
      (broadcastTo S256x128 (extractStridedSlice S256x1 ![0, k] (k0_pay359 (View.ld x1 (Rect.unit (s := S256x56) ![0, 0] S256x56.size inb1))) hsl) hbr)
        : FVec F S256x128 .bf16) x = xwF x0 x1 j := by
  subst ho
  have hx1 : (x 1).val < 128 := (x 1).isLt
  have e0 := congrFun (shapeCast_self (s := S256x128) (View.ld x0 (Rect.unit (s := S256x7168) ![0, 128 * k] S256x128.size inb)) hs) x
  have e1 : k0_pay359 (View.ld x1 (Rect.unit (s := S256x56) ![0, 0] S256x56.size inb1)) = truncf .bf16 x1 bitsLt_bf16_f32 := by
    unfold k0_pay359
    refine congrArg (truncf .bf16 · bitsLt_bf16_f32) ((shapeCast_self (s := S256x56) _ _).trans (funext fun y => ?_))
    show x1 _ = x1 y
    congr 1
    funext d
    match d with
    | ⟨0, _⟩ => apply Fin.ext; show 0 + 1 * (y 0).val = (y 0).val; omega
    | ⟨1, _⟩ => apply Fin.ext; show 0 + 1 * (y 1).val = (y 1).val; omega
  rw [e1]
  unfold xwF
  refine congrArg₂ FloatOps.mulf (congrArg (FloatOps.extf .bf16 bitsLt_fp8e4m3_bf16) (e0.trans ?_)) ?_
  · show x0 _ = x0 _
    congr 1
    funext d
    match d with
    | ⟨0, _⟩ => apply Fin.ext; show 0 + 1 * (x 0).val = (j 0).val; omega
    | ⟨1, _⟩ => apply Fin.ext; show 128 * k + 1 * (x 1).val = (j 1).val; omega
  · refine (broadcastTo_apply _ hbr x (ix2 (n0 := 256) (n1 := 1) (x 0) 0) ?_).trans ?_
    · intro a
      match a with
      | ⟨0, _⟩ => rfl
      | ⟨1, _⟩ => rfl
    · refine (extractStridedSlice_apply _ _ hsl _ (xwF.sc j) ?_).trans rfl
      intro a
      match a with
      | ⟨0, _⟩ => show (j 0).val = 0 + (x 0).val; omega
      | ⟨1, _⟩ => show (j 1).val / 128 = k + 0; omega

end Cert.KernelIdeal.Hand

end
-- ==== Proof.KI.Outs.lean ====
/- What the body leaves in each output buffer, as a function of its input blocks. -/
module

public import proofs.«01_k».proof.Proof.KI.Fill
public import proofs.«01_k».proof.Proof.KI.Concat
public import Idealize.ShloMosaic.Lib.WritesUnit

@[expose] public section

set_option maxRecDepth 65536

noncomputable section

namespace Cert.KernelIdeal.Hand

open Idealize.ShloMosaic Idealize.ShloMosaic.TcCoe Idealize.ShloMosaic.Tactic
open Cert.KernelIdeal.Gen

variable {F : FTy → Type} [FloatOps F]

/-- The latent of a block of tokens. -/
def latX (x0 : Vec F S256x7168 .fp8e4m3) (x1 : Vec F S256x56 .f32) (x2 : Vec F S7168x576 .fp8e4m3) (x3 : Vec F S56x5 .f32) :
    FVec F S256x512 .f32 :=
  latF (xwF x0 x1) (View.ld (Wf x2 x3) (Rect.unit (s := S7168x576) ![0, 0] S7168x512.size inb_S7168x576_S7168x512_0_0))

/-- The gradient that the norm hands back. -/
def normF (c : FVec F S256x512 .f32) (x7 : Vec F S256x512 .bf16) (x4 : Vec F S1x512 .f32) : FVec F S256x512 .f32 :=
  k0_pay421 c (k0_pay415 x7) (msF c) x4

/-- The positions of the block's tokens: row `i / 4` of the two rows. -/
def posRow (i : grid0.Coords) (x5 : Vec F S2x256 .i32) : Vec F S1x256 .i32 :=
  View.ld x5 (Rect.unit (s := S2x256) (k0_off2 i) S1x256.size (k0_off2_inb i))

/-- Columns `128 g` to `128 g + 127`. -/
def colN (v : FVec F S256x512 .f32) (g : Fin 4) : FVec F S256x128 .f32 := fun y =>
  v (ix2 (n0 := 256) (n1 := 512) (y 0) ⟨128 * g.val + (y 1).val, by have h : (y 1).val < 128 := (y 1).isLt; have := g.isLt; omega⟩)

/-- The codes: four blocks of 128 columns of the norm's gradient, then the 64 columns of the rotary one. -/
def codesF (v : FVec F S256x512 .f32) (k : FVec F S256x64 .f32) : Vec F S256x576 .fp8e5m2 := fun j =>
  if h : (j 1).val < 512 then
    codeN (colN v ⟨(j 1).val / 128, by omega⟩) (ix2 (n0 := 256) (n1 := 128) (j 0) ⟨(j 1).val % 128, by omega⟩)
  else codeK k (ix2 (n0 := 256) (n1 := 64) (j 0) ⟨(j 1).val - 512, by have h : (j 1).val < 576 := (j 1).isLt; omega⟩)

/-- The scales, one column for each block. -/
def scalesF (v : FVec F S256x512 .f32) (k : FVec F S256x64 .f32) : Vec F S256x5 .f32 :=
  laneF 4#32 (upF (qK k)) (laneF 3#32 (upF (qN (colN v 3))) (laneF 2#32 (upF (qN (colN v 2))) (laneF 1#32 (upF (qN (colN v 1)))
    (laneF 0#32 (upF (qN (colN v 0))) k0_pay433))))

/-- The dequantised gradient. -/
def gradF (v : FVec F S256x512 .f32) (k : FVec F S256x64 .f32) : FVec F S256x576 .bf16 :=
  k0_pay586 (deqN (colN v 0)) (deqN (colN v 1)) (deqN (colN v 2)) (deqN (colN v 3)) (upF (qK k)) (codeK k)

/-- Rows `1024 n` to `1024 n + 1023` of the weight. -/
def wRows (w : Vec F S7168x576 .bf16) (n : Fin 7) : Vec F S1024x576 .bf16 := fun y =>
  w (ix2 (n0 := 7168) (n1 := 576) ⟨1024 * n.val + (y 0).val, by have h : (y 0).val < 1024 := (y 0).isLt; have := n.isLt; omega⟩ (y 1))

/-- The input gradient, in seven blocks of 1024 columns. -/
def dxX (g : FVec F S256x576 .bf16) (w : Vec F S7168x576 .bf16) : Vec F S256x7168 .bf16 := fun j =>
  dxF g (wRows w ⟨(j 1).val / 1024, by have h : (j 1).val < 7168 := (j 1).isLt; omega⟩)
    (ix2 (n0 := 256) (n1 := 1024) (j 0) ⟨(j 1).val % 1024, by omega⟩)

/-- The gain's gradient: the point's two rows replaced, the others as they were. -/
def gainF (n : ℕ) (c dc : FVec F S256x512 .f32) (old : Vec F S16x512 .f32) : Vec F S16x512 .f32 := fun j =>
  if (j 0).val = 2 * n + 1 then k0_pay420 c dc (msF c) (ix2 (n0 := 1) (n1 := 512) 0 (j 1))
  else if (j 0).val = 2 * n then k0_pay419 c dc (msF c) (ix2 (n0 := 1) (n1 := 512) 0 (j 1))
  else old j

/-! ## The stored pieces are pieces of these -/

theorem pay_colN (v : FVec F S256x512 .f32) (o : ℕ) (g : Fin 4) (ho : o = 128 * g.val) (hsl : S256x512.Slices ![0, o] S256x128) :
    extractStridedSlice S256x128 ![0, o] v hsl = colN v g := by
  subst ho
  funext y
  refine extractStridedSlice_apply _ _ hsl _ _ ?_
  intro a
  match a with
  | ⟨0, _⟩ => show (y 0).val = 0 + (y 0).val; omega
  | ⟨1, _⟩ => rfl

theorem colN_0 (v : FVec F S256x512 .f32) : k0_pay434 v = colN v 0 := pay_colN v 0 0 rfl slices_S256x512_o0_0_S256x128
theorem colN_1 (v : FVec F S256x512 .f32) : k0_pay466 v = colN v 1 := pay_colN v 128 1 rfl slices_S256x512_o0_128_S256x128
theorem colN_2 (v : FVec F S256x512 .f32) : k0_pay497 v = colN v 2 := pay_colN v 256 2 rfl slices_S256x512_o0_256_S256x128
theorem colN_3 (v : FVec F S256x512 .f32) : k0_pay527 v = colN v 3 := pay_colN v 384 3 rfl slices_S256x512_o0_384_S256x128

theorem codes_piece (v : FVec F S256x512 .f32) (k : FVec F S256x64 .f32) (o : ℕ) (g : Fin 4) (ho : o = 128 * g.val)
    (inb : ∀ d, (![0, o] : Fin 2 → ℕ) d + S256x128.size d ≤ S256x576.size d) (x : S256x128.Idx) :
    codeN (colN v g) x = codesF v k ((Rect.unit (s := S256x576) ![0, o] S256x128.size inb).emb x) := by
  subst ho
  have hx1 : (x 1).val < 128 := (x 1).isLt
  have hg := g.isLt
  have e1 : (((Rect.unit (s := S256x576) ![0, 128 * g.val] S256x128.size inb).emb x) 1).val = 128 * g.val + (x 1).val := by
    show 128 * g.val + 1 * (x 1).val = _; omega
  unfold codesF
  rw [dif_pos (by rw [e1]; omega)]
  have eg : (⟨(((Rect.unit (s := S256x576) ![0, 128 * g.val] S256x128.size inb).emb x) 1).val / 128, by omega⟩ : Fin 4) = g :=
    Fin.ext (by show _ / 128 = g.val; rw [e1]; omega)
  rw [eg]
  congr 1
  funext d
  match d with
  | ⟨0, _⟩ => apply Fin.ext; show (x 0).val = 0 + 1 * (x 0).val; omega
  | ⟨1, _⟩ => apply Fin.ext; show (x 1).val = _ % 128; rw [e1]; omega

theorem codes_piece_k (v : FVec F S256x512 .f32) (k : FVec F S256x64 .f32)
    (inb : ∀ d, (![0, 512] : Fin 2 → ℕ) d + S256x64.size d ≤ S256x576.size d) (x : S256x64.Idx) :
    codeK k x = codesF v k ((Rect.unit (s := S256x576) ![0, 512] S256x64.size inb).emb x) := by
  have e1 : (((Rect.unit (s := S256x576) ![0, 512] S256x64.size inb).emb x) 1).val = 512 + (x 1).val := by
    show 512 + 1 * (x 1).val = _; omega
  unfold codesF
  rw [dif_neg (by rw [e1]; omega)]
  congr 1
  funext d
  match d with
  | ⟨0, _⟩ => apply Fin.ext; show (x 0).val = 0 + 1 * (x 0).val; omega
  | ⟨1, _⟩ => apply Fin.ext; show (x 1).val = _ - 512; rw [e1]; omega

theorem ld_wRows (w : Vec F S7168x576 .bf16) (o : ℕ) (n : Fin 7) (ho : o = 1024 * n.val)
    (inb : ∀ d, (![o, 0] : Fin 2 → ℕ) d + S1024x576.size d ≤ S7168x576.size d) :
    (View.ld w (Rect.unit (s := S7168x576) ![o, 0] S1024x576.size inb) : Vec F S1024x576 .bf16) = wRows w n := by
  subst ho
  funext y
  show w _ = w _
  congr 1
  funext d
  match d with
  | ⟨0, _⟩ => apply Fin.ext; show 1024 * n.val + 1 * (y 0).val = 1024 * n.val + (y 0).val; omega
  | ⟨1, _⟩ => apply Fin.ext; show 0 + 1 * (y 1).val = (y 1).val; omega

theorem dx_piece (g : FVec F S256x576 .bf16) (w : Vec F S7168x576 .bf16) (o : ℕ) (n : Fin 7) (ho : o = 1024 * n.val)
    (inb : ∀ d, (![o, 0] : Fin 2 → ℕ) d + S1024x576.size d ≤ S7168x576.size d)
    (inb' : ∀ d, (![0, o] : Fin 2 → ℕ) d + S256x1024.size d ≤ S256x7168.size d) (x : S256x1024.Idx) :
    dxF g (View.ld w (Rect.unit (s := S7168x576) ![o, 0] S1024x576.size inb)) x
      = dxX g w ((Rect.unit (s := S256x7168) ![0, o] S256x1024.size inb').emb x) := by
  have hx1 : (x 1).val < 1024 := (x 1).isLt
  have hn := n.isLt
  refine (congrFun (congrArg (dxF g) (ld_wRows w o n ho inb)) x).trans ?_
  subst ho
  have e1 : (((Rect.unit (s := S256x7168) ![0, 1024 * n.val] S256x1024.size inb').emb x) 1).val = 1024 * n.val + (x 1).val := by
    show 1024 * n.val + 1 * (x 1).val = _; omega
  unfold dxX
  have en : (⟨(((Rect.unit (s := S256x7168) ![0, 1024 * n.val] S256x1024.size inb').emb x) 1).val / 1024, by omega⟩ : Fin 7) = n :=
    Fin.ext (by show _ / 1024 = n.val; rw [e1]; omega)
  rw [en]
  congr 1
  funext d
  match d with
  | ⟨0, _⟩ => apply Fin.ext; show (x 0).val = 0 + 1 * (x 0).val; omega
  | ⟨1, _⟩ => apply Fin.ext; show (x 1).val = _ % 1024; rw [e1]; omega

theorem off00 : (![0, 0] : Fin 2 → ℕ) = fun _ => 0 := by decide

theorem off1_0 (i : grid0.Coords) : k0_off1 i 0#32 = ![2 * (i 0).val, 0] := by
  have h : ∀ n : Fin 8, (Scalar.indexCast (Scalar.addi (Scalar.muli (BitVec.ofNat 32 n.val) 2#32) 0#32)).toNat = 2 * n.val := by decide
  have := h (i 0)
  unfold k0_off1
  rw [← this]

theorem off1_1 (i : grid0.Coords) : k0_off1 i 1#32 = ![2 * (i 0).val + 1, 0] := by
  have h : ∀ n : Fin 8, (Scalar.indexCast (Scalar.addi (Scalar.muli (BitVec.ofNat 32 n.val) 2#32) 1#32)).toNat = 2 * n.val + 1 := by decide
  have := h (i 0)
  unfold k0_off1
  rw [← this]

theorem off2 (i : grid0.Coords) : k0_off2 i = ![(i 0).val / 4, 0] := by
  have h : ∀ i : grid0.Coords, k0_off2 i 0 = (i 0).val / 4 := by decide +kernel
  rw [← h i]
  funext d
  match d with
  | ⟨0, _⟩ => rfl
  | ⟨1, _⟩ => rfl

/-- Two rows written over a buffer. -/
theorem read_gain {sp : Space} (a : Memref sig .tc sp S16x512 .f32) (f : a.view.ty.Contents (Elt F)) (i : grid0.Coords)
    (c dc : FVec F S256x512 .f32) :
    a.view.read (Elt F) (a.view.writes (Elt F) f
      [⟨Rect.unit (s := S16x512) (k0_off1 i 1#32) S1x512.size (k0_off1_inb i 1), k0_pay420 c dc (msF c)⟩,
       ⟨Rect.unit (s := S16x512) (k0_off1 i 0#32) S1x512.size (k0_off1_inb i 0), k0_pay419 c dc (msF c)⟩])
      = gainF (i 0).val c dc (a.view.read (Elt F) f) := by
  funext j
  unfold gainF
  split
  next h =>
    exact View.read_writes_cons_rows_of_mem (d := ![16, 512]) _ _ _ _ _ j (ix2 (n0 := 1) (n1 := 512) 0 (j 1)) (off1_1 i) h rfl
  next h =>
    refine (View.read_writes_cons_rows_of_not_mem (d := ![16, 512]) (W := 1) _ _ _ _ _ j (off1_1 i) rfl (by omega)).trans ?_
    split
    next h' =>
      exact View.read_writes_cons_rows_of_mem (d := ![16, 512]) _ _ _ _ _ j (ix2 (n0 := 1) (n1 := 512) 0 (j 1)) (off1_0 i) h' rfl
    next h' =>
      exact View.read_writes_cons_rows_of_not_mem (d := ![16, 512]) (W := 1) _ _ _ _ _ j (off1_0 i) rfl (by omega)

end Cert.KernelIdeal.Hand

end
-- ==== Proof.KI.Run.lean ====
/- The kernel's body at any grid point, run once: from its input blocks and the scratch (which is anything at the first point and the
   dequantised weight later) to the outputs as functions of the blocks, and the scratch at the dequantised weight. -/
module

public import proofs.«01_k».proof.Proof.KI.Outs

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

set_option maxHeartbeats 8000000 in
set_option sl_exec.resultNames true in
/-- The body at a grid point. -/
theorem body_run (c : Dev nD) (i : grid0.Coords) (arg1 : Memref sig .tc .vmem S256x7168 .fp8e4m3) (harg1 : arg1.IsWhole) (arg2 : Memref sig .tc .vmem S256x56 .f32) (harg2 : arg2.IsWhole) (arg3 : Memref sig .tc .vmem S7168x576 .fp8e4m3) (harg3 : arg3.IsWhole) (arg4 : Memref sig .tc .smem S56x5 .f32) (harg4 : arg4.IsWhole) (arg5 : Memref sig .tc .vmem S1x512 .f32) (harg5 : arg5.IsWhole) (arg6 : Memref sig .tc .vmem S2x256 .i32) (harg6 : arg6.IsWhole) (arg7 : Memref sig .tc .vmem S64x256 .f32) (harg7 : arg7.IsWhole) (arg8 : Memref sig .tc .vmem S256x512 .bf16) (harg8 : arg8.IsWhole) (arg9 : Memref sig .tc .vmem S256x64 .bf16) (harg9 : arg9.IsWhole) (arg10 : Memref sig .tc .vmem S256x7168 .bf16) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S7168x576 .bf16) (harg14 : arg14.IsWhole)
    (x0 : Vec F S256x7168 .fp8e4m3) (x1 : Vec F S256x56 .f32) (x2 : Vec F S7168x576 .fp8e4m3) (x3 : Vec F S56x5 .f32)
    (x4 : Vec F S1x512 .f32) (x5 : Vec F S2x256 .i32) (x6 : Vec F S64x256 .f32) (x7 : Vec F S256x512 .bf16) (x8 : Vec F S256x64 .bf16)
    (x9 : Vec F S256x7168 .bf16) (x10 : Vec F S16x512 .f32) (x11 : Vec F S256x576 .fp8e5m2) (x12 : Vec F S256x5 .f32)
    (xs : Vec F S7168x576 .bf16) (hS : ¬ cond0_0 i → xs = Wf x2 x3) (E : Set ℕ) (K : PUnit → sProp 𝕄) :
    (iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg7 fullShare x6
      ∗ owns (c : Thread nD τ) arg8 fullShare x7
      ∗ owns (c : Thread nD τ) arg9 fullShare x8
      ∗ owns (c : Thread nD τ) arg10 fullShare x9 ∗ owns (c : Thread nD τ) arg11 fullShare x10
      ∗ owns (c : Thread nD τ) arg12 fullShare x11 ∗ owns (c : Thread nD τ) arg13 fullShare x12
      ∗ owns (c : Thread nD τ) arg14 fullShare xs
      ∗ (iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg7 fullShare x6
      ∗ owns (c : Thread nD τ) arg8 fullShare x7
      ∗ owns (c : Thread nD τ) arg9 fullShare x8
      ∗ owns (c : Thread nD τ) arg10 fullShare (dxX (gradF (normF (latX x0 x1 x2 x3) x7 x4) (dkF (posRow i x5) x6 x8)) (Wf x2 x3))
      ∗ owns (c : Thread nD τ) arg11 fullShare (gainF (i 0).val (latX x0 x1 x2 x3) (k0_pay415 x7) x10)
      ∗ owns (c : Thread nD τ) arg12 fullShare (codesF (normF (latX x0 x1 x2 x3) x7 x4) (dkF (posRow i x5) x6 x8))
      ∗ owns (c : Thread nD τ) arg13 fullShare (scalesF (normF (latX x0 x1 x2 x3) x7 x4) (dkF (posRow i x5) x6 x8))
      ∗ owns (c : Thread nD τ) arg14 fullShare (Wf x2 x3)) -∗ K ⟨⟩)) : sProp 𝕄)
      ⊢ wp frame (wpE (defs₀ (F := F)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f14, %hf14, HS⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg9.eq_unread hf8
  have hcut := part76_spec (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 f14 (fun h => hf14.trans (hS h)) E
  have rd0 : ∀ (R : Rect S256x7168), View.readAt (Elt F) arg1.view R.toLoadRect (harg1.unread x0) = View.ld x0 R := fun R => by
    rw [View.readAt_eq_ld, harg1.read_unread]
  have rd1 : ∀ (R : Rect S256x56), View.readAt (Elt F) arg2.view R.toLoadRect (harg2.unread x1) = View.ld x1 R := fun R => by
    rw [View.readAt_eq_ld, harg2.read_unread]
  have rd2 : ∀ (R : Rect S7168x576), View.readAt (Elt F) arg3.view R.toLoadRect (harg3.unread x2) = View.ld x2 R := fun R => by
    rw [View.readAt_eq_ld, harg3.read_unread]
  have rd3 : ∀ (R : Rect S56x5), View.readAt (Elt F) arg4.view R.toLoadRect (harg4.unread x3) = View.ld x3 R := fun R => by
    rw [View.readAt_eq_ld, harg4.read_unread]
  have rd4 : ∀ (R : Rect S1x512), View.readAt (Elt F) arg5.view R.toLoadRect (harg5.unread x4) = View.ld x4 R := fun R => by
    rw [View.readAt_eq_ld, harg5.read_unread]
  have rd5 : ∀ (R : Rect S2x256), View.readAt (Elt F) arg6.view R.toLoadRect (harg6.unread x5) = View.ld x5 R := fun R => by
    rw [View.readAt_eq_ld, harg6.read_unread]
  have rd6 : ∀ (R : Rect S64x256), View.readAt (Elt F) arg7.view R.toLoadRect (harg7.unread x6) = View.ld x6 R := fun R => by
    rw [View.readAt_eq_ld, harg7.read_unread]
  have rd7 : ∀ (R : Rect S256x512), View.readAt (Elt F) arg8.view R.toLoadRect (harg8.unread x7) = View.ld x7 R := fun R => by
    rw [View.readAt_eq_ld, harg8.read_unread]
  have rd8 : ∀ (R : Rect S256x64), View.readAt (Elt F) arg9.view R.toLoadRect (harg9.unread x8) = View.ld x8 R := fun R => by
    rw [View.readAt_eq_ld, harg9.read_unread]
  have rdS : ∀ (R : Rect S7168x576), View.readAt (Elt F) arg14.view R.toLoadRect (harg14.unread (Wf x2 x3)) = View.ld (Wf x2 x3) R := fun R => by
    rw [View.readAt_eq_ld, harg14.read_unread]
  simp only [cc0_mla_kv_bwd_eq_skeleton]; unfold cc0_mla_kv_bwd_skel
  simp only [k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton]
  sl_exec
  sl_step
  clear rd0 rd1 rd2 rd3 rd4 rd5 rd6 rd7 rd8 rdS hcut
  subst_vars
  have hlat : body_run.sl.r_48 x0 x2 x3 (BitVec.ofNat 32 (i 0).val) (k0_pay359 (View.ld x1 (Rect.unit (s := S256x56) ![0, 0] S256x56.size inb_S256x56_S256x56_0_0))) (k0_pay360 (View.ld x1 (Rect.unit (s := S256x56) ![0, 0] S256x56.size inb_S256x56_S256x56_0_0)) (View.ld x0 (Rect.unit (s := S256x7168) ![0, 0] S256x128.size inb_S256x7168_S256x128_0_0))) (k0_pay361 (View.ld x1 (Rect.unit (s := S256x56) ![0, 0] S256x56.size inb_S256x56_S256x56_0_0)) (View.ld x0 (Rect.unit (s := S256x7168) ![0, 128] S256x128.size inb_S256x7168_S256x128_0_128))) (k0_pay362 (View.ld x1 (Rect.unit (s := S256x56) ![0, 0] S256x56.size inb_S256x56_S256x56_0_0)) (View.ld x0 (Rect.unit (s := S256x7168) ![0, 256] S256x128.size inb_S256x7168_S256x128_0_256))) (k0_pay363 (View.ld x1 (Rect.unit (s := S256x56) ![0, 0] S256x56.size inb_S256x56_S256x56_0_0)) (View.ld x0 (Rect.unit (s := S256x7168) ![0, 384] S256x128.size inb_S256x7168_S256x128_0_384))) (k0_pay364 (View.ld x1 (Rect.unit (s := S256x56) ![0, 0] S256x56.size inb_S256x56_S256x56_0_0)) (View.ld x0 (Rect.unit (s := S256x7168) ![0, 512] S256x128.size inb_S256x7168_S256x128_0_512))) (k0_pay365 (View.ld x1 (Rect.unit (s := S256x56) ![0, 0] S256x56.size inb_S256x56_S256x56_0_0)) (View.ld x0 (Rect.unit (s := S256x7168) ![0, 640] S256x128.size inb_S256x7168_S256x128_0_640))) = latX x0 x1 x2 x3 := by
    show latF (concatenate S256x7168 1 _ _) _ = latF _ _
    congr 1
    refine concatenate_of_blocks _ _ _ rfl ?_
    repeat first
      | refine ⟨⟨_, rfl, fun x j h0 h1 => xw_block x0 x1 _ _ (by rfl) _ _ _ _ _ x j h0 h1⟩, ?_⟩
      | exact trivial
  have e4 : (View.ld x4 (Rect.unit (s := S1x512) ![0, 0] S1x512.size inb_S1x512_S1x512_0_0)) = x4 := View.ld_unit_zero (S := S1x512) off00 _ _
  have e6 : (View.ld x6 (Rect.unit (s := S64x256) ![0, 0] S64x256.size inb_S64x256_S64x256_0_0)) = x6 := View.ld_unit_zero (S := S64x256) off00 _ _
  have e7 : (View.ld x7 (Rect.unit (s := S256x512) ![0, 0] S256x512.size inb_S256x512_S256x512_0_0)) = x7 := View.ld_unit_zero (S := S256x512) off00 _ _
  have e8 : (View.ld x8 (Rect.unit (s := S256x64) ![0, 0] S256x64.size inb_S256x64_S256x64_0_0)) = x8 := View.ld_unit_zero (S := S256x64) off00 _ _
  have hdc : body_run.sl.r_49 x7 = k0_pay415 x7 := congrArg k0_pay415 e7
  have hms : body_run.sl.r_50 x0 x2 x3 (BitVec.ofNat 32 (i 0).val) (k0_pay359 (View.ld x1 (Rect.unit (s := S256x56) ![0, 0] S256x56.size inb_S256x56_S256x56_0_0))) (k0_pay360 (View.ld x1 (Rect.unit (s := S256x56) ![0, 0] S256x56.size inb_S256x56_S256x56_0_0)) (View.ld x0 (Rect.unit (s := S256x7168) ![0, 0] S256x128.size inb_S256x7168_S256x128_0_0))) (k0_pay361 (View.ld x1 (Rect.unit (s := S256x56) ![0, 0] S256x56.size inb_S256x56_S256x56_0_0)) (View.ld x0 (Rect.unit (s := S256x7168) ![0, 128] S256x128.size inb_S256x7168_S256x128_0_128))) (k0_pay362 (View.ld x1 (Rect.unit (s := S256x56) ![0, 0] S256x56.size inb_S256x56_S256x56_0_0)) (View.ld x0 (Rect.unit (s := S256x7168) ![0, 256] S256x128.size inb_S256x7168_S256x128_0_256))) (k0_pay363 (View.ld x1 (Rect.unit (s := S256x56) ![0, 0] S256x56.size inb_S256x56_S256x56_0_0)) (View.ld x0 (Rect.unit (s := S256x7168) ![0, 384] S256x128.size inb_S256x7168_S256x128_0_384))) (k0_pay364 (View.ld x1 (Rect.unit (s := S256x56) ![0, 0] S256x56.size inb_S256x56_S256x56_0_0)) (View.ld x0 (Rect.unit (s := S256x7168) ![0, 512] S256x128.size inb_S256x7168_S256x128_0_512))) (k0_pay365 (View.ld x1 (Rect.unit (s := S256x56) ![0, 0] S256x56.size inb_S256x56_S256x56_0_0)) (View.ld x0 (Rect.unit (s := S256x7168) ![0, 640] S256x128.size inb_S256x7168_S256x128_0_640))) = msF (latX x0 x1 x2 x3) := congrArg msF hlat
  have hv : body_run.sl.r_51 x0 x2 x3 x4 x7 (BitVec.ofNat 32 (i 0).val) (k0_pay359 (View.ld x1 (Rect.unit (s := S256x56) ![0, 0] S256x56.size inb_S256x56_S256x56_0_0))) (k0_pay360 (View.ld x1 (Rect.unit (s := S256x56) ![0, 0] S256x56.size inb_S256x56_S256x56_0_0)) (View.ld x0 (Rect.unit (s := S256x7168) ![0, 0] S256x128.size inb_S256x7168_S256x128_0_0))) (k0_pay361 (View.ld x1 (Rect.unit (s := S256x56) ![0, 0] S256x56.size inb_S256x56_S256x56_0_0)) (View.ld x0 (Rect.unit (s := S256x7168) ![0, 128] S256x128.size inb_S256x7168_S256x128_0_128))) (k0_pay362 (View.ld x1 (Rect.unit (s := S256x56) ![0, 0] S256x56.size inb_S256x56_S256x56_0_0)) (View.ld x0 (Rect.unit (s := S256x7168) ![0, 256] S256x128.size inb_S256x7168_S256x128_0_256))) (k0_pay363 (View.ld x1 (Rect.unit (s := S256x56) ![0, 0] S256x56.size inb_S256x56_S256x56_0_0)) (View.ld x0 (Rect.unit (s := S256x7168) ![0, 384] S256x128.size inb_S256x7168_S256x128_0_384))) (k0_pay364 (View.ld x1 (Rect.unit (s := S256x56) ![0, 0] S256x56.size inb_S256x56_S256x56_0_0)) (View.ld x0 (Rect.unit (s := S256x7168) ![0, 512] S256x128.size inb_S256x7168_S256x128_0_512))) (k0_pay365 (View.ld x1 (Rect.unit (s := S256x56) ![0, 0] S256x56.size inb_S256x56_S256x56_0_0)) (View.ld x0 (Rect.unit (s := S256x7168) ![0, 640] S256x128.size inb_S256x7168_S256x128_0_640))) = (normF (latX x0 x1 x2 x3) x7 x4) := by
    show k0_pay421 (body_run.sl.r_48 x0 x2 x3 (BitVec.ofNat 32 (i 0).val) (k0_pay359 (View.ld x1 (Rect.unit (s := S256x56) ![0, 0] S256x56.size inb_S256x56_S256x56_0_0))) (k0_pay360 (View.ld x1 (Rect.unit (s := S256x56) ![0, 0] S256x56.size inb_S256x56_S256x56_0_0)) (View.ld x0 (Rect.unit (s := S256x7168) ![0, 0] S256x128.size inb_S256x7168_S256x128_0_0))) (k0_pay361 (View.ld x1 (Rect.unit (s := S256x56) ![0, 0] S256x56.size inb_S256x56_S256x56_0_0)) (View.ld x0 (Rect.unit (s := S256x7168) ![0, 128] S256x128.size inb_S256x7168_S256x128_0_128))) (k0_pay362 (View.ld x1 (Rect.unit (s := S256x56) ![0, 0] S256x56.size inb_S256x56_S256x56_0_0)) (View.ld x0 (Rect.unit (s := S256x7168) ![0, 256] S256x128.size inb_S256x7168_S256x128_0_256))) (k0_pay363 (View.ld x1 (Rect.unit (s := S256x56) ![0, 0] S256x56.size inb_S256x56_S256x56_0_0)) (View.ld x0 (Rect.unit (s := S256x7168) ![0, 384] S256x128.size inb_S256x7168_S256x128_0_384))) (k0_pay364 (View.ld x1 (Rect.unit (s := S256x56) ![0, 0] S256x56.size inb_S256x56_S256x56_0_0)) (View.ld x0 (Rect.unit (s := S256x7168) ![0, 512] S256x128.size inb_S256x7168_S256x128_0_512))) (k0_pay365 (View.ld x1 (Rect.unit (s := S256x56) ![0, 0] S256x56.size inb_S256x56_S256x56_0_0)) (View.ld x0 (Rect.unit (s := S256x7168) ![0, 640] S256x128.size inb_S256x7168_S256x128_0_640)))) (body_run.sl.r_49 x7) (body_run.sl.r_50 x0 x2 x3 (BitVec.ofNat 32 (i 0).val) (k0_pay359 (View.ld x1 (Rect.unit (s := S256x56) ![0, 0] S256x56.size inb_S256x56_S256x56_0_0))) (k0_pay360 (View.ld x1 (Rect.unit (s := S256x56) ![0, 0] S256x56.size inb_S256x56_S256x56_0_0)) (View.ld x0 (Rect.unit (s := S256x7168) ![0, 0] S256x128.size inb_S256x7168_S256x128_0_0))) (k0_pay361 (View.ld x1 (Rect.unit (s := S256x56) ![0, 0] S256x56.size inb_S256x56_S256x56_0_0)) (View.ld x0 (Rect.unit (s := S256x7168) ![0, 128] S256x128.size inb_S256x7168_S256x128_0_128))) (k0_pay362 (View.ld x1 (Rect.unit (s := S256x56) ![0, 0] S256x56.size inb_S256x56_S256x56_0_0)) (View.ld x0 (Rect.unit (s := S256x7168) ![0, 256] S256x128.size inb_S256x7168_S256x128_0_256))) (k0_pay363 (View.ld x1 (Rect.unit (s := S256x56) ![0, 0] S256x56.size inb_S256x56_S256x56_0_0)) (View.ld x0 (Rect.unit (s := S256x7168) ![0, 384] S256x128.size inb_S256x7168_S256x128_0_384))) (k0_pay364 (View.ld x1 (Rect.unit (s := S256x56) ![0, 0] S256x56.size inb_S256x56_S256x56_0_0)) (View.ld x0 (Rect.unit (s := S256x7168) ![0, 512] S256x128.size inb_S256x7168_S256x128_0_512))) (k0_pay365 (View.ld x1 (Rect.unit (s := S256x56) ![0, 0] S256x56.size inb_S256x56_S256x56_0_0)) (View.ld x0 (Rect.unit (s := S256x7168) ![0, 640] S256x128.size inb_S256x7168_S256x128_0_640)))) (View.ld x4 (Rect.unit (s := S1x512) ![0, 0] S1x512.size inb_S1x512_S1x512_0_0)) = _
    rw [hlat, hdc, hms, e4]; rfl
  have hk : body_run.sl.r_56 i x5 x6 x8 = (dkF (posRow i x5) x6 x8) := by
    show dkF (posRow i x5) (View.ld x6 (Rect.unit (s := S64x256) ![0, 0] S64x256.size inb_S64x256_S64x256_0_0)) (View.ld x8 (Rect.unit (s := S256x64) ![0, 0] S256x64.size inb_S256x64_S256x64_0_0)) = _
    rw [e6, e8]
  have q0 : k0_pay434 (body_run.sl.r_51 x0 x2 x3 x4 x7 (BitVec.ofNat 32 (i 0).val) (k0_pay359 (View.ld x1 (Rect.unit (s := S256x56) ![0, 0] S256x56.size inb_S256x56_S256x56_0_0))) (k0_pay360 (View.ld x1 (Rect.unit (s := S256x56) ![0, 0] S256x56.size inb_S256x56_S256x56_0_0)) (View.ld x0 (Rect.unit (s := S256x7168) ![0, 0] S256x128.size inb_S256x7168_S256x128_0_0))) (k0_pay361 (View.ld x1 (Rect.unit (s := S256x56) ![0, 0] S256x56.size inb_S256x56_S256x56_0_0)) (View.ld x0 (Rect.unit (s := S256x7168) ![0, 128] S256x128.size inb_S256x7168_S256x128_0_128))) (k0_pay362 (View.ld x1 (Rect.unit (s := S256x56) ![0, 0] S256x56.size inb_S256x56_S256x56_0_0)) (View.ld x0 (Rect.unit (s := S256x7168) ![0, 256] S256x128.size inb_S256x7168_S256x128_0_256))) (k0_pay363 (View.ld x1 (Rect.unit (s := S256x56) ![0, 0] S256x56.size inb_S256x56_S256x56_0_0)) (View.ld x0 (Rect.unit (s := S256x7168) ![0, 384] S256x128.size inb_S256x7168_S256x128_0_384))) (k0_pay364 (View.ld x1 (Rect.unit (s := S256x56) ![0, 0] S256x56.size inb_S256x56_S256x56_0_0)) (View.ld x0 (Rect.unit (s := S256x7168) ![0, 512] S256x128.size inb_S256x7168_S256x128_0_512))) (k0_pay365 (View.ld x1 (Rect.unit (s := S256x56) ![0, 0] S256x56.size inb_S256x56_S256x56_0_0)) (View.ld x0 (Rect.unit (s := S256x7168) ![0, 640] S256x128.size inb_S256x7168_S256x128_0_640)))) = colN (normF (latX x0 x1 x2 x3) x7 x4) 0 := by rw [hv]; exact colN_0 _
  have q1 : k0_pay466 (body_run.sl.r_51 x0 x2 x3 x4 x7 (BitVec.ofNat 32 (i 0).val) (k0_pay359 (View.ld x1 (Rect.unit (s := S256x56) ![0, 0] S256x56.size inb_S256x56_S256x56_0_0))) (k0_pay360 (View.ld x1 (Rect.unit (s := S256x56) ![0, 0] S256x56.size inb_S256x56_S256x56_0_0)) (View.ld x0 (Rect.unit (s := S256x7168) ![0, 0] S256x128.size inb_S256x7168_S256x128_0_0))) (k0_pay361 (View.ld x1 (Rect.unit (s := S256x56) ![0, 0] S256x56.size inb_S256x56_S256x56_0_0)) (View.ld x0 (Rect.unit (s := S256x7168) ![0, 128] S256x128.size inb_S256x7168_S256x128_0_128))) (k0_pay362 (View.ld x1 (Rect.unit (s := S256x56) ![0, 0] S256x56.size inb_S256x56_S256x56_0_0)) (View.ld x0 (Rect.unit (s := S256x7168) ![0, 256] S256x128.size inb_S256x7168_S256x128_0_256))) (k0_pay363 (View.ld x1 (Rect.unit (s := S256x56) ![0, 0] S256x56.size inb_S256x56_S256x56_0_0)) (View.ld x0 (Rect.unit (s := S256x7168) ![0, 384] S256x128.size inb_S256x7168_S256x128_0_384))) (k0_pay364 (View.ld x1 (Rect.unit (s := S256x56) ![0, 0] S256x56.size inb_S256x56_S256x56_0_0)) (View.ld x0 (Rect.unit (s := S256x7168) ![0, 512] S256x128.size inb_S256x7168_S256x128_0_512))) (k0_pay365 (View.ld x1 (Rect.unit (s := S256x56) ![0, 0] S256x56.size inb_S256x56_S256x56_0_0)) (View.ld x0 (Rect.unit (s := S256x7168) ![0, 640] S256x128.size inb_S256x7168_S256x128_0_640)))) = colN (normF (latX x0 x1 x2 x3) x7 x4) 1 := by rw [hv]; exact colN_1 _
  have q2 : k0_pay497 (body_run.sl.r_51 x0 x2 x3 x4 x7 (BitVec.ofNat 32 (i 0).val) (k0_pay359 (View.ld x1 (Rect.unit (s := S256x56) ![0, 0] S256x56.size inb_S256x56_S256x56_0_0))) (k0_pay360 (View.ld x1 (Rect.unit (s := S256x56) ![0, 0] S256x56.size inb_S256x56_S256x56_0_0)) (View.ld x0 (Rect.unit (s := S256x7168) ![0, 0] S256x128.size inb_S256x7168_S256x128_0_0))) (k0_pay361 (View.ld x1 (Rect.unit (s := S256x56) ![0, 0] S256x56.size inb_S256x56_S256x56_0_0)) (View.ld x0 (Rect.unit (s := S256x7168) ![0, 128] S256x128.size inb_S256x7168_S256x128_0_128))) (k0_pay362 (View.ld x1 (Rect.unit (s := S256x56) ![0, 0] S256x56.size inb_S256x56_S256x56_0_0)) (View.ld x0 (Rect.unit (s := S256x7168) ![0, 256] S256x128.size inb_S256x7168_S256x128_0_256))) (k0_pay363 (View.ld x1 (Rect.unit (s := S256x56) ![0, 0] S256x56.size inb_S256x56_S256x56_0_0)) (View.ld x0 (Rect.unit (s := S256x7168) ![0, 384] S256x128.size inb_S256x7168_S256x128_0_384))) (k0_pay364 (View.ld x1 (Rect.unit (s := S256x56) ![0, 0] S256x56.size inb_S256x56_S256x56_0_0)) (View.ld x0 (Rect.unit (s := S256x7168) ![0, 512] S256x128.size inb_S256x7168_S256x128_0_512))) (k0_pay365 (View.ld x1 (Rect.unit (s := S256x56) ![0, 0] S256x56.size inb_S256x56_S256x56_0_0)) (View.ld x0 (Rect.unit (s := S256x7168) ![0, 640] S256x128.size inb_S256x7168_S256x128_0_640)))) = colN (normF (latX x0 x1 x2 x3) x7 x4) 2 := by rw [hv]; exact colN_2 _
  have q3 : k0_pay527 (body_run.sl.r_51 x0 x2 x3 x4 x7 (BitVec.ofNat 32 (i 0).val) (k0_pay359 (View.ld x1 (Rect.unit (s := S256x56) ![0, 0] S256x56.size inb_S256x56_S256x56_0_0))) (k0_pay360 (View.ld x1 (Rect.unit (s := S256x56) ![0, 0] S256x56.size inb_S256x56_S256x56_0_0)) (View.ld x0 (Rect.unit (s := S256x7168) ![0, 0] S256x128.size inb_S256x7168_S256x128_0_0))) (k0_pay361 (View.ld x1 (Rect.unit (s := S256x56) ![0, 0] S256x56.size inb_S256x56_S256x56_0_0)) (View.ld x0 (Rect.unit (s := S256x7168) ![0, 128] S256x128.size inb_S256x7168_S256x128_0_128))) (k0_pay362 (View.ld x1 (Rect.unit (s := S256x56) ![0, 0] S256x56.size inb_S256x56_S256x56_0_0)) (View.ld x0 (Rect.unit (s := S256x7168) ![0, 256] S256x128.size inb_S256x7168_S256x128_0_256))) (k0_pay363 (View.ld x1 (Rect.unit (s := S256x56) ![0, 0] S256x56.size inb_S256x56_S256x56_0_0)) (View.ld x0 (Rect.unit (s := S256x7168) ![0, 384] S256x128.size inb_S256x7168_S256x128_0_384))) (k0_pay364 (View.ld x1 (Rect.unit (s := S256x56) ![0, 0] S256x56.size inb_S256x56_S256x56_0_0)) (View.ld x0 (Rect.unit (s := S256x7168) ![0, 512] S256x128.size inb_S256x7168_S256x128_0_512))) (k0_pay365 (View.ld x1 (Rect.unit (s := S256x56) ![0, 0] S256x56.size inb_S256x56_S256x56_0_0)) (View.ld x0 (Rect.unit (s := S256x7168) ![0, 640] S256x128.size inb_S256x7168_S256x128_0_640)))) = colN (normF (latX x0 x1 x2 x3) x7 x4) 3 := by rw [hv]; exact colN_3 _
  have c0 : k0_pay463 (body_run.sl.r_64 x0 x2 x3 x4 x7 (BitVec.ofNat 32 (i 0).val) (k0_pay359 (View.ld x1 (Rect.unit (s := S256x56) ![0, 0] S256x56.size inb_S256x56_S256x56_0_0))) (k0_pay360 (View.ld x1 (Rect.unit (s := S256x56) ![0, 0] S256x56.size inb_S256x56_S256x56_0_0)) (View.ld x0 (Rect.unit (s := S256x7168) ![0, 0] S256x128.size inb_S256x7168_S256x128_0_0))) (k0_pay361 (View.ld x1 (Rect.unit (s := S256x56) ![0, 0] S256x56.size inb_S256x56_S256x56_0_0)) (View.ld x0 (Rect.unit (s := S256x7168) ![0, 128] S256x128.size inb_S256x7168_S256x128_0_128))) (k0_pay362 (View.ld x1 (Rect.unit (s := S256x56) ![0, 0] S256x56.size inb_S256x56_S256x56_0_0)) (View.ld x0 (Rect.unit (s := S256x7168) ![0, 256] S256x128.size inb_S256x7168_S256x128_0_256))) (k0_pay363 (View.ld x1 (Rect.unit (s := S256x56) ![0, 0] S256x56.size inb_S256x56_S256x56_0_0)) (View.ld x0 (Rect.unit (s := S256x7168) ![0, 384] S256x128.size inb_S256x7168_S256x128_0_384))) (k0_pay364 (View.ld x1 (Rect.unit (s := S256x56) ![0, 0] S256x56.size inb_S256x56_S256x56_0_0)) (View.ld x0 (Rect.unit (s := S256x7168) ![0, 512] S256x128.size inb_S256x7168_S256x128_0_512))) (k0_pay365 (View.ld x1 (Rect.unit (s := S256x56) ![0, 0] S256x56.size inb_S256x56_S256x56_0_0)) (View.ld x0 (Rect.unit (s := S256x7168) ![0, 640] S256x128.size inb_S256x7168_S256x128_0_640)))) k0_pay462 = codeN (colN (normF (latX x0 x1 x2 x3) x7 x4) 0) := by rw [← q0]; rfl
  have c1 : k0_pay494 (body_run.sl.r_73 x0 x2 x3 x4 x7 (BitVec.ofNat 32 (i 0).val) (k0_pay359 (View.ld x1 (Rect.unit (s := S256x56) ![0, 0] S256x56.size inb_S256x56_S256x56_0_0))) (k0_pay360 (View.ld x1 (Rect.unit (s := S256x56) ![0, 0] S256x56.size inb_S256x56_S256x56_0_0)) (View.ld x0 (Rect.unit (s := S256x7168) ![0, 0] S256x128.size inb_S256x7168_S256x128_0_0))) (k0_pay361 (View.ld x1 (Rect.unit (s := S256x56) ![0, 0] S256x56.size inb_S256x56_S256x56_0_0)) (View.ld x0 (Rect.unit (s := S256x7168) ![0, 128] S256x128.size inb_S256x7168_S256x128_0_128))) (k0_pay362 (View.ld x1 (Rect.unit (s := S256x56) ![0, 0] S256x56.size inb_S256x56_S256x56_0_0)) (View.ld x0 (Rect.unit (s := S256x7168) ![0, 256] S256x128.size inb_S256x7168_S256x128_0_256))) (k0_pay363 (View.ld x1 (Rect.unit (s := S256x56) ![0, 0] S256x56.size inb_S256x56_S256x56_0_0)) (View.ld x0 (Rect.unit (s := S256x7168) ![0, 384] S256x128.size inb_S256x7168_S256x128_0_384))) (k0_pay364 (View.ld x1 (Rect.unit (s := S256x56) ![0, 0] S256x56.size inb_S256x56_S256x56_0_0)) (View.ld x0 (Rect.unit (s := S256x7168) ![0, 512] S256x128.size inb_S256x7168_S256x128_0_512))) (k0_pay365 (View.ld x1 (Rect.unit (s := S256x56) ![0, 0] S256x56.size inb_S256x56_S256x56_0_0)) (View.ld x0 (Rect.unit (s := S256x7168) ![0, 640] S256x128.size inb_S256x7168_S256x128_0_640)))) = codeN (colN (normF (latX x0 x1 x2 x3) x7 x4) 1) := by rw [← q1]; rfl
  have c2 : body_run.sl.r_82 x0 x2 x3 x4 x7 (BitVec.ofNat 32 (i 0).val) (k0_pay359 (View.ld x1 (Rect.unit (s := S256x56) ![0, 0] S256x56.size inb_S256x56_S256x56_0_0))) (k0_pay360 (View.ld x1 (Rect.unit (s := S256x56) ![0, 0] S256x56.size inb_S256x56_S256x56_0_0)) (View.ld x0 (Rect.unit (s := S256x7168) ![0, 0] S256x128.size inb_S256x7168_S256x128_0_0))) (k0_pay361 (View.ld x1 (Rect.unit (s := S256x56) ![0, 0] S256x56.size inb_S256x56_S256x56_0_0)) (View.ld x0 (Rect.unit (s := S256x7168) ![0, 128] S256x128.size inb_S256x7168_S256x128_0_128))) (k0_pay362 (View.ld x1 (Rect.unit (s := S256x56) ![0, 0] S256x56.size inb_S256x56_S256x56_0_0)) (View.ld x0 (Rect.unit (s := S256x7168) ![0, 256] S256x128.size inb_S256x7168_S256x128_0_256))) (k0_pay363 (View.ld x1 (Rect.unit (s := S256x56) ![0, 0] S256x56.size inb_S256x56_S256x56_0_0)) (View.ld x0 (Rect.unit (s := S256x7168) ![0, 384] S256x128.size inb_S256x7168_S256x128_0_384))) (k0_pay364 (View.ld x1 (Rect.unit (s := S256x56) ![0, 0] S256x56.size inb_S256x56_S256x56_0_0)) (View.ld x0 (Rect.unit (s := S256x7168) ![0, 512] S256x128.size inb_S256x7168_S256x128_0_512))) (k0_pay365 (View.ld x1 (Rect.unit (s := S256x56) ![0, 0] S256x56.size inb_S256x56_S256x56_0_0)) (View.ld x0 (Rect.unit (s := S256x7168) ![0, 640] S256x128.size inb_S256x7168_S256x128_0_640))) = codeN (colN (normF (latX x0 x1 x2 x3) x7 x4) 2) := by rw [← q2]; rfl
  have c3 : body_run.sl.r_91 x0 x2 x3 x4 x7 (BitVec.ofNat 32 (i 0).val) (k0_pay359 (View.ld x1 (Rect.unit (s := S256x56) ![0, 0] S256x56.size inb_S256x56_S256x56_0_0))) (k0_pay360 (View.ld x1 (Rect.unit (s := S256x56) ![0, 0] S256x56.size inb_S256x56_S256x56_0_0)) (View.ld x0 (Rect.unit (s := S256x7168) ![0, 0] S256x128.size inb_S256x7168_S256x128_0_0))) (k0_pay361 (View.ld x1 (Rect.unit (s := S256x56) ![0, 0] S256x56.size inb_S256x56_S256x56_0_0)) (View.ld x0 (Rect.unit (s := S256x7168) ![0, 128] S256x128.size inb_S256x7168_S256x128_0_128))) (k0_pay362 (View.ld x1 (Rect.unit (s := S256x56) ![0, 0] S256x56.size inb_S256x56_S256x56_0_0)) (View.ld x0 (Rect.unit (s := S256x7168) ![0, 256] S256x128.size inb_S256x7168_S256x128_0_256))) (k0_pay363 (View.ld x1 (Rect.unit (s := S256x56) ![0, 0] S256x56.size inb_S256x56_S256x56_0_0)) (View.ld x0 (Rect.unit (s := S256x7168) ![0, 384] S256x128.size inb_S256x7168_S256x128_0_384))) (k0_pay364 (View.ld x1 (Rect.unit (s := S256x56) ![0, 0] S256x56.size inb_S256x56_S256x56_0_0)) (View.ld x0 (Rect.unit (s := S256x7168) ![0, 512] S256x128.size inb_S256x7168_S256x128_0_512))) (k0_pay365 (View.ld x1 (Rect.unit (s := S256x56) ![0, 0] S256x56.size inb_S256x56_S256x56_0_0)) (View.ld x0 (Rect.unit (s := S256x7168) ![0, 640] S256x128.size inb_S256x7168_S256x128_0_640))) = codeN (colN (normF (latX x0 x1 x2 x3) x7 x4) 3) := by rw [← q3]; rfl
  have c4 : body_run.sl.r_98 i x5 x6 x8 = codeK (dkF (posRow i x5) x6 x8) := by rw [← hk]; rfl
  have hG : k0_pay586 (body_run.sl.r_66 x0 x2 x3 x4 x7 (BitVec.ofNat 32 (i 0).val) (k0_pay359 (View.ld x1 (Rect.unit (s := S256x56) ![0, 0] S256x56.size inb_S256x56_S256x56_0_0))) (k0_pay360 (View.ld x1 (Rect.unit (s := S256x56) ![0, 0] S256x56.size inb_S256x56_S256x56_0_0)) (View.ld x0 (Rect.unit (s := S256x7168) ![0, 0] S256x128.size inb_S256x7168_S256x128_0_0))) (k0_pay361 (View.ld x1 (Rect.unit (s := S256x56) ![0, 0] S256x56.size inb_S256x56_S256x56_0_0)) (View.ld x0 (Rect.unit (s := S256x7168) ![0, 128] S256x128.size inb_S256x7168_S256x128_0_128))) (k0_pay362 (View.ld x1 (Rect.unit (s := S256x56) ![0, 0] S256x56.size inb_S256x56_S256x56_0_0)) (View.ld x0 (Rect.unit (s := S256x7168) ![0, 256] S256x128.size inb_S256x7168_S256x128_0_256))) (k0_pay363 (View.ld x1 (Rect.unit (s := S256x56) ![0, 0] S256x56.size inb_S256x56_S256x56_0_0)) (View.ld x0 (Rect.unit (s := S256x7168) ![0, 384] S256x128.size inb_S256x7168_S256x128_0_384))) (k0_pay364 (View.ld x1 (Rect.unit (s := S256x56) ![0, 0] S256x56.size inb_S256x56_S256x56_0_0)) (View.ld x0 (Rect.unit (s := S256x7168) ![0, 512] S256x128.size inb_S256x7168_S256x128_0_512))) (k0_pay365 (View.ld x1 (Rect.unit (s := S256x56) ![0, 0] S256x56.size inb_S256x56_S256x56_0_0)) (View.ld x0 (Rect.unit (s := S256x7168) ![0, 640] S256x128.size inb_S256x7168_S256x128_0_640)))) (body_run.sl.r_75 x0 x2 x3 x4 x7 (BitVec.ofNat 32 (i 0).val) (k0_pay359 (View.ld x1 (Rect.unit (s := S256x56) ![0, 0] S256x56.size inb_S256x56_S256x56_0_0))) (k0_pay360 (View.ld x1 (Rect.unit (s := S256x56) ![0, 0] S256x56.size inb_S256x56_S256x56_0_0)) (View.ld x0 (Rect.unit (s := S256x7168) ![0, 0] S256x128.size inb_S256x7168_S256x128_0_0))) (k0_pay361 (View.ld x1 (Rect.unit (s := S256x56) ![0, 0] S256x56.size inb_S256x56_S256x56_0_0)) (View.ld x0 (Rect.unit (s := S256x7168) ![0, 128] S256x128.size inb_S256x7168_S256x128_0_128))) (k0_pay362 (View.ld x1 (Rect.unit (s := S256x56) ![0, 0] S256x56.size inb_S256x56_S256x56_0_0)) (View.ld x0 (Rect.unit (s := S256x7168) ![0, 256] S256x128.size inb_S256x7168_S256x128_0_256))) (k0_pay363 (View.ld x1 (Rect.unit (s := S256x56) ![0, 0] S256x56.size inb_S256x56_S256x56_0_0)) (View.ld x0 (Rect.unit (s := S256x7168) ![0, 384] S256x128.size inb_S256x7168_S256x128_0_384))) (k0_pay364 (View.ld x1 (Rect.unit (s := S256x56) ![0, 0] S256x56.size inb_S256x56_S256x56_0_0)) (View.ld x0 (Rect.unit (s := S256x7168) ![0, 512] S256x128.size inb_S256x7168_S256x128_0_512))) (k0_pay365 (View.ld x1 (Rect.unit (s := S256x56) ![0, 0] S256x56.size inb_S256x56_S256x56_0_0)) (View.ld x0 (Rect.unit (s := S256x7168) ![0, 640] S256x128.size inb_S256x7168_S256x128_0_640)))) (body_run.sl.r_84 x0 x2 x3 x4 x7 (BitVec.ofNat 32 (i 0).val) (k0_pay359 (View.ld x1 (Rect.unit (s := S256x56) ![0, 0] S256x56.size inb_S256x56_S256x56_0_0))) (k0_pay360 (View.ld x1 (Rect.unit (s := S256x56) ![0, 0] S256x56.size inb_S256x56_S256x56_0_0)) (View.ld x0 (Rect.unit (s := S256x7168) ![0, 0] S256x128.size inb_S256x7168_S256x128_0_0))) (k0_pay361 (View.ld x1 (Rect.unit (s := S256x56) ![0, 0] S256x56.size inb_S256x56_S256x56_0_0)) (View.ld x0 (Rect.unit (s := S256x7168) ![0, 128] S256x128.size inb_S256x7168_S256x128_0_128))) (k0_pay362 (View.ld x1 (Rect.unit (s := S256x56) ![0, 0] S256x56.size inb_S256x56_S256x56_0_0)) (View.ld x0 (Rect.unit (s := S256x7168) ![0, 256] S256x128.size inb_S256x7168_S256x128_0_256))) (k0_pay363 (View.ld x1 (Rect.unit (s := S256x56) ![0, 0] S256x56.size inb_S256x56_S256x56_0_0)) (View.ld x0 (Rect.unit (s := S256x7168) ![0, 384] S256x128.size inb_S256x7168_S256x128_0_384))) (k0_pay364 (View.ld x1 (Rect.unit (s := S256x56) ![0, 0] S256x56.size inb_S256x56_S256x56_0_0)) (View.ld x0 (Rect.unit (s := S256x7168) ![0, 512] S256x128.size inb_S256x7168_S256x128_0_512))) (k0_pay365 (View.ld x1 (Rect.unit (s := S256x56) ![0, 0] S256x56.size inb_S256x56_S256x56_0_0)) (View.ld x0 (Rect.unit (s := S256x7168) ![0, 640] S256x128.size inb_S256x7168_S256x128_0_640)))) (body_run.sl.r_93 x0 x2 x3 x4 x7 (BitVec.ofNat 32 (i 0).val) (k0_pay359 (View.ld x1 (Rect.unit (s := S256x56) ![0, 0] S256x56.size inb_S256x56_S256x56_0_0))) (k0_pay360 (View.ld x1 (Rect.unit (s := S256x56) ![0, 0] S256x56.size inb_S256x56_S256x56_0_0)) (View.ld x0 (Rect.unit (s := S256x7168) ![0, 0] S256x128.size inb_S256x7168_S256x128_0_0))) (k0_pay361 (View.ld x1 (Rect.unit (s := S256x56) ![0, 0] S256x56.size inb_S256x56_S256x56_0_0)) (View.ld x0 (Rect.unit (s := S256x7168) ![0, 128] S256x128.size inb_S256x7168_S256x128_0_128))) (k0_pay362 (View.ld x1 (Rect.unit (s := S256x56) ![0, 0] S256x56.size inb_S256x56_S256x56_0_0)) (View.ld x0 (Rect.unit (s := S256x7168) ![0, 256] S256x128.size inb_S256x7168_S256x128_0_256))) (k0_pay363 (View.ld x1 (Rect.unit (s := S256x56) ![0, 0] S256x56.size inb_S256x56_S256x56_0_0)) (View.ld x0 (Rect.unit (s := S256x7168) ![0, 384] S256x128.size inb_S256x7168_S256x128_0_384))) (k0_pay364 (View.ld x1 (Rect.unit (s := S256x56) ![0, 0] S256x56.size inb_S256x56_S256x56_0_0)) (View.ld x0 (Rect.unit (s := S256x7168) ![0, 512] S256x128.size inb_S256x7168_S256x128_0_512))) (k0_pay365 (View.ld x1 (Rect.unit (s := S256x56) ![0, 0] S256x56.size inb_S256x56_S256x56_0_0)) (View.ld x0 (Rect.unit (s := S256x7168) ![0, 640] S256x128.size inb_S256x7168_S256x128_0_640))))
      (body_run.sl.r_97 i x5 x6 x8) (body_run.sl.r_98 i x5 x6 x8) = gradF (normF (latX x0 x1 x2 x3) x7 x4) (dkF (posRow i x5) x6 x8) := by
    unfold gradF
    rw [← q0, ← q1, ← q2, ← q3, ← hk]; rfl
  have hsc : k0_pay585 body_run.sl.v454 (body_run.sl.r_92 x0 x2 x3 x4 x7 (BitVec.ofNat 32 (i 0).val) (k0_pay359 (View.ld x1 (Rect.unit (s := S256x56) ![0, 0] S256x56.size inb_S256x56_S256x56_0_0))) (k0_pay360 (View.ld x1 (Rect.unit (s := S256x56) ![0, 0] S256x56.size inb_S256x56_S256x56_0_0)) (View.ld x0 (Rect.unit (s := S256x7168) ![0, 0] S256x128.size inb_S256x7168_S256x128_0_0))) (k0_pay361 (View.ld x1 (Rect.unit (s := S256x56) ![0, 0] S256x56.size inb_S256x56_S256x56_0_0)) (View.ld x0 (Rect.unit (s := S256x7168) ![0, 128] S256x128.size inb_S256x7168_S256x128_0_128))) (k0_pay362 (View.ld x1 (Rect.unit (s := S256x56) ![0, 0] S256x56.size inb_S256x56_S256x56_0_0)) (View.ld x0 (Rect.unit (s := S256x7168) ![0, 256] S256x128.size inb_S256x7168_S256x128_0_256))) (k0_pay363 (View.ld x1 (Rect.unit (s := S256x56) ![0, 0] S256x56.size inb_S256x56_S256x56_0_0)) (View.ld x0 (Rect.unit (s := S256x7168) ![0, 384] S256x128.size inb_S256x7168_S256x128_0_384))) (k0_pay364 (View.ld x1 (Rect.unit (s := S256x56) ![0, 0] S256x56.size inb_S256x56_S256x56_0_0)) (View.ld x0 (Rect.unit (s := S256x7168) ![0, 512] S256x128.size inb_S256x7168_S256x128_0_512))) (k0_pay365 (View.ld x1 (Rect.unit (s := S256x56) ![0, 0] S256x56.size inb_S256x56_S256x56_0_0)) (View.ld x0 (Rect.unit (s := S256x7168) ![0, 640] S256x128.size inb_S256x7168_S256x128_0_640)))) (body_run.sl.r_97 i x5 x6 x8) = scalesF (normF (latX x0 x1 x2 x3) x7 x4) (dkF (posRow i x5) x6 x8) := by
    unfold scalesF
    rw [← q0, ← q1, ← q2, ← q3, ← hk]; rfl
  iapply Hk
  isplitl [Hk0_part76_8]; · iexists _; isplitr; · ipureintro; exact harg1.read_unread _
                            iexact Hk0_part76_8
  isplitl [Hk0_part76_9]; · iexists _; isplitr; · ipureintro; exact harg2.read_unread _
                            iexact Hk0_part76_9
  isplitl [Hk0_part76_10]; · iexists _; isplitr; · ipureintro; exact harg3.read_unread _
                             iexact Hk0_part76_10
  isplitl [Hk0_part76_11]; · iexists _; isplitr; · ipureintro; exact harg4.read_unread _
                             iexact Hk0_part76_11
  isplitl [H4]; · iexists _; isplitr; · ipureintro; exact harg5.read_unread _
                  iexact H4
  isplitl [H5]; · iexists _; isplitr; · ipureintro; exact harg6.read_unread _
                  iexact H5
  isplitl [H6]; · iexists _; isplitr; · ipureintro; exact harg7.read_unread _
                  iexact H6
  isplitl [H7]; · iexists _; isplitr; · ipureintro; exact harg8.read_unread _
                  iexact H7
  isplitl [H8]; · iexists _; isplitr; · ipureintro; exact harg9.read_unread _
                  iexact H8
  isplitl [H9]
  · iexists _; isplitr; swap; · iexact H9
    ipureintro
    rw [← hG]
    refine funext fun y => View.read_writes_apply_of_pieces _ _ _ _ (View.PiecesOf.mem ?_) y (View.cover_of_tiledBy _ ![256, 1024] (by sl_kernel_rfl) y)
    refine ⟨fun x => dx_piece _ _ 6144 6 (by rfl) inb_S7168x576_S1024x576_6144_0 inb_S256x7168_S256x1024_0_6144 x, ?_⟩
    refine ⟨fun x => dx_piece _ _ 5120 5 (by rfl) inb_S7168x576_S1024x576_5120_0 inb_S256x7168_S256x1024_0_5120 x, ?_⟩
    refine ⟨fun x => dx_piece _ _ 4096 4 (by rfl) inb_S7168x576_S1024x576_4096_0 inb_S256x7168_S256x1024_0_4096 x, ?_⟩
    refine ⟨fun x => dx_piece _ _ 3072 3 (by rfl) inb_S7168x576_S1024x576_3072_0 inb_S256x7168_S256x1024_0_3072 x, ?_⟩
    refine ⟨fun x => dx_piece _ _ 2048 2 (by rfl) inb_S7168x576_S1024x576_2048_0 inb_S256x7168_S256x1024_0_2048 x, ?_⟩
    refine ⟨fun x => dx_piece _ _ 1024 1 (by rfl) inb_S7168x576_S1024x576_1024_0 inb_S256x7168_S256x1024_0_1024 x, ?_⟩
    refine ⟨fun x => dx_piece _ _ 0 0 (by rfl) inb_S7168x576_S1024x576_0_0 inb_S256x7168_S256x1024_0_0 x, ?_⟩
    exact trivial
  isplitl [H10]
  · iexists _; isplitr; swap; · iexact H10
    ipureintro
    rw [hlat, hdc, hms]
    exact read_gain _ _ i _ _
  isplitl [H11]
  · iexists _; isplitr; swap; · iexact H11
    ipureintro
    rw [c0, c1, c2, c3, c4]
    refine funext fun y => View.read_writes_apply_of_pieces _ _ _ _ (View.PiecesOf.mem ?_) y (View.cover_of_tiledBy _ ![256, 64] (by sl_kernel_rfl) y)
    refine ⟨fun x => codes_piece_k _ _ inb_S256x576_S256x64_0_512 x, ?_⟩
    refine ⟨fun x => codes_piece _ _ 384 3 (by rfl) inb_S256x576_S256x128_0_384 x, ?_⟩
    refine ⟨fun x => codes_piece _ _ 256 2 (by rfl) inb_S256x576_S256x128_0_256 x, ?_⟩
    refine ⟨fun x => codes_piece _ _ 128 1 (by rfl) inb_S256x576_S256x128_0_128 x, ?_⟩
    refine ⟨fun x => codes_piece _ _ 0 0 (by rfl) inb_S256x576_S256x128_0_0 x, ?_⟩
    exact trivial
  isplitl [H12]
  · iexists _; isplitr; swap; · iexact H12
    ipureintro
    rw [hsc]
    exact funext fun y => View.read_writes_cons_unit_of_mem _ _ _ _ _ y y off00 fun a => (Nat.zero_add _).symm
  iexists _; isplitr; swap; · iexact Hk0_part76_12
  ipureintro
  exact harg14.read_unread _

end Cert.KernelIdeal.Hand

end
-- ==== Proof.KI.Frame.lean ====
/- The frame of the exact-arithmetic kernel, with what it leaves in its outputs: the pipeline's proof data name every output block as a
   function of the input blocks, and the gain's buffer, which every point adds two rows to, by the rows written so far. -/
module

public import proofs.«01_k».proof.Proof.KI.Run
public import Idealize.ShloMosaic.Lib.Claim
public import Idealize.ShloMosaic.Lib.Pipeline.ArrRel

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The outputs of a point -/

/-- The first grid point. -/
def t0 : Fin cfg0.N := ⟨0, by decide +kernel⟩

/-- The dequantised weight, off the weight's two arrays. -/
def wX (c : Dev nD) : Vec F S7168x576 .bf16 := Wf (iblk m c 2 t0) (iblk m c 3 t0)

/-- The latent of point `t`'s tokens. -/
def cX (c : Dev nD) (t : Fin cfg0.N) : FVec F S256x512 .f32 := latX (iblk m c 0 t) (iblk m c 1 t) (iblk m c 2 t0) (iblk m c 3 t0)

/-- The gradient that the norm hands back at point `t`. -/
def vX (c : Dev nD) (t : Fin cfg0.N) : FVec F S256x512 .f32 := normF (cX m c t) (iblk m c 7 t) (iblk m c 4 t)

/-- The rotary gradient turned back at point `t`. -/
def kX (c : Dev nD) (t : Fin cfg0.N) : FVec F S256x64 .f32 :=
  dkF (posRow (grid0.coords t) (iblk m c 5 t)) (iblk m c 6 t) (iblk m c 8 t)

/-- The blocks of the weight and of its scales do not move. -/
theorem iblk_2 (c : Dev nD) (t : Fin cfg0.N) : (iblk m c 2 t : Vec F S7168x576 .fp8e4m3) = iblk m c 2 t0 := rfl
theorem iblk_3 (c : Dev nD) (t : Fin cfg0.N) : (iblk m c 3 t : Vec F S56x5 .f32) = iblk m c 3 t0 := rfl

/-- The gain's buffer after point `t`: two rows for each point so far. -/
def gainOk (c : Dev nD) (t : Fin cfg0.N) (X : Vec F S16x512 .f32) : Prop :=
  ∀ u : Fin cfg0.N, u.val ≤ t.val → ∀ j : S16x512.Idx,
    ((j 0).val = 2 * u.val + 1 → X j = k0_pay420 (cX m c u) (k0_pay415 (iblk m c 7 u)) (msF (cX m c u)) (ix2 (n0 := 1) (n1 := 512) 0 (j 1)))
    ∧ ((j 0).val = 2 * u.val → X j = k0_pay419 (cX m c u) (k0_pay415 (iblk m c 7 u)) (msF (cX m c u)) (ix2 (n0 := 1) (n1 := 512) 0 (j 1)))

/-- What the body adds at point `t` keeps the rows of the points before. -/
theorem gainOk_step (c : Dev nD) (t : Fin cfg0.N) (X : Vec F S16x512 .f32)
    (h : ∀ s : Fin cfg0.N, s.val + 1 = t.val → gainOk m c s X) :
    gainOk m c t (gainF ((grid0.coords t) 0).val (cX m c t) (k0_pay415 (iblk m c 7 t)) X) := by
  have hN : t.val < 8 := lt_of_lt_of_eq t.isLt (show cfg0.N = 8 from N_0)
  have ht : ((grid0.coords t) 0).val = t.val :=
    (Pipeline.Grid.coords_val t 0 (by decide) rfl).trans (show t.val / 1 % 8 = t.val by omega)
  rw [ht]
  intro u hu j
  have hj : (j 0).val < 16 := (j 0).isLt
  rcases Nat.lt_or_eq_of_le hu with hlt | heq
  · have hp := h ⟨t.val - 1, Nat.lt_of_le_of_lt (Nat.sub_le _ _) t.isLt⟩ (by show t.val - 1 + 1 = t.val; omega) u (by show u.val ≤ t.val - 1; omega) j
    refine ⟨fun e => ?_, fun e => ?_⟩
    · unfold gainF; rw [if_neg (by omega), if_neg (by omega)]; exact hp.1 e
    · unfold gainF; rw [if_neg (by omega), if_neg (by omega)]; exact hp.2 e
  · have hut : u = t := Fin.ext heq
    subst hut
    refine ⟨fun e => ?_, fun e => ?_⟩
    · unfold gainF; rw [if_pos e]
    · unfold gainF; rw [if_neg (by omega), if_pos e]

/-! ## The pipeline's proof data -/

/-- The output window stated by a relation: the gain's, which every point adds to. -/
def rel0 : Fin 13 → Bool := fun w => w.val == 10

/-- The relation: the rows written so far. -/
def Rl (c : Dev nD) (w : Fin cfg0.W) (t : Fin cfg0.N) : ((cfg0.win w).block.Idx → Elt F (cfg0.win w).elt) → Prop :=
  match w with
  | ⟨10, _⟩ => fun X => gainOk m c t X
  | _ => fun _ => True

/-- The invariant: the scratch holds anything before the first point and the dequantised weight after it. -/
def inv (c : Dev nD) (t : ℕ) : sProp 𝕄 :=
  iprop((∃ d, owns (c : Thread nD τ) scM0_0 fullShare d ∗ ⌜t ≠ 0 → d = wX m c⌝) ∗ (∃ r, prngReg c r))

/-- The proof data of the one pipeline on core `c`: the arrays as the region finds them (`V`); after the body at
    point `t` each input's buffer at its block and the outputs at their values, the gain's stated apart (`Rl`); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dxX (gradF (vX m c t) (kX m c t)) (wX m c)
    | ⟨10, h⟩ => Pipeline.Dat.unnamed (cfg := cfg0) ⟨10, h⟩ t
    | ⟨11, _⟩ => codesF (vX m c t) (kX m c t)
    | ⟨12, _⟩ => scalesF (vX m c t) (kX m c t)
  Φ t := inv m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

theorem after0_9 (c : Dev nD) (t : Fin cfg0.N) : (dats m 0 c).after 9 t = dxX (gradF (vX m c t) (kX m c t)) (wX m c) := by dsimp only [dats]
theorem after0_11 (c : Dev nD) (t : Fin cfg0.N) : (dats m 0 c).after 11 t = codesF (vX m c t) (kX m c t) := by dsimp only [dats]
theorem after0_12 (c : Dev nD) (t : Fin cfg0.N) : (dats m 0 c).after 12 t = scalesF (vX m c t) (kX m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- The pipeline's data with the gain's window a relation. -/
def rdat (c : Dev nD) : Pipeline.RDat τ (Elt F) Unit ℕ (UR sig nD τ) ℕ cfg0 c := (dats m 0 c).toRRel rel0 (Rl m c)

/-- What the gain's buffer holds when the body runs at a point: the rows of the points before. -/
theorem finds_10 (c : Dev nD) (t : Fin cfg0.N) (Y : (cfg0.win 10).block.Idx → Elt F (cfg0.win 10).elt)
    (h : ((dats m 0 c).toRRel rel0 (Rl m c)).Finds 10 t Y) (s : Fin cfg0.N) (hs : s.val + 1 = t.val) : gainOk m c s Y := by
  have hN : t.val < 8 := lt_of_lt_of_eq t.isLt (show cfg0.N = 8 from N_0)
  have hs' : (⟨t.val - 1, Nat.lt_of_le_of_lt (Nat.sub_le _ _) t.isLt⟩ : Fin cfg0.N) = s := Fin.ext (by show t.val - 1 = s.val; omega)
  rcases (Pipeline.RDat.finds_of_pos _ (show (cfg0.win 10).fetch t = false from rfl) (by omega) Y).mp h with hf | hl
  · rw [hs'] at hf
    have := (flush0_10 s).mp hf
    omega
  · rw [hs'] at hl
    exact (dats m 0 c).toRRel_leaves (fgt := rel0) (Rl := Rl m c) (w := 10) rfl hl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ Y, ⌜((dats m 0 c).toRRel rel0 (Rl m c)).Finds 10 t Y⌝ ∗ owns (c : Thread nD τ) (ms0_10 t) fullShare Y)
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ X, ⌜Rl m c 10 t X⌝ ∗ owns (c : Thread nD τ) (ms0_10 t) fullShare X)
    ∗ owns (c : Thread nD τ) (ms0_11 t) fullShare ((dats m 0 c).after 11 t)
    ∗ owns (c : Thread nD τ) (ms0_12 t) fullShare ((dats m 0 c).after 12 t))

set_option maxHeartbeats 4000000 in
/-- The body at any point: the inputs' buffers hold their blocks, so the run applies, and what it leaves is what the data name. -/
theorem sound_body (c : Dev nD) (t : Fin cfg0.N) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  unfold bodyPre bodyPost bodyAt0
  simp only [before0_0, before0_1, before0_2, before0_3, before0_4, before0_5, before0_6, before0_7, before0_8]
  rw [show (dats m 0 c).Φ t.succ = inv m c (t.val + 1) from rfl,
    show (dats m 0 c).Φ t.castSucc = inv m c t.val from rfl,
    show (dats m 0 c).owesAt () t.succ = (dats m 0 c).owesAt () t.castSucc from rfl,
    after0_0, after0_1, after0_2, after0_3, after0_4, after0_5, after0_6, after0_7, after0_8, after0_9, after0_11, after0_12]
  unfold inv
  iintro ⟨⟨⟨%S, HS0, %hS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, %h10, H10⟩, ⟨%d11, H11⟩, ⟨%d12, H12⟩⟩
  iapply (body_run c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)
    _ d10 _ _ S (fun h => (hS (fun e => h ((hcond0_0 t).mpr (by omega)))).trans rfl) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  iintro ⟨H0, H1, H2, H3, H4, H5, H6, H7, H8, H9, H10, H11, H12, HS0⟩
  isplitl [HS0 Hg]
  · isplitl [HS0]
    · iexists (wX m c)
      isplitl [HS0]; · iexact HS0
      ipureintro; exact fun _ => rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _
    isplitr
    · ipureintro; exact gainOk_step m c t d10 (finds_10 m c t d10 h10)
    iexact H10
  isplitl [H11]; · iexact H11
  iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligationRel (dats (F := F) m 0 c) (defs₀ (F := F)) Variants.none () Set.univ rel0 (Rl m c) := fun t => by
  rw [bigSep_W0, bigSep_W0, defs₀_row]
  exact triple_restated (sound_body m c t) rfl .rfl fun _ => .rfl

/-! ## The run and the frame -/

/-- The region hands the invariant its scratch at anything, -/
theorem inv_in (c : Dev nD) : Pipeline.ΦA spec0 c ⊢ inv m c 0 := by
  rw [PhiA0_eq]; unfold inv
  iintro ⟨⟨%d, H⟩, Hg⟩
  isplitl [H]
  · iexists d
    isplitl [H]; · iexact H
    ipureintro; exact fun h => absurd rfl h
  iexact Hg

/-- and takes it back. -/
theorem inv_out (c : Dev nD) (n : ℕ) : inv m c n ⊢ Pipeline.ΦA spec0 c := by
  rw [PhiA0_eq]; unfold inv
  iintro ⟨⟨%d, H, -⟩, Hg⟩
  isplitl [H]
  · iexists d; iexact H
  iexact Hg

-- the launch theorem's implicit arguments are found by unifying its conclusion with this one, which takes unfolding plain
-- definitions in a metavariable's type
set_option backward.isDefEq.respectTransparency.types false in
/-- THE LAUNCH: every final state has the arrays the data name, and every semaphore counter of the machine at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame_track cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m)
    (hin := fun c => inv_in m c) (hout := fun c => inv_out m c _) (Q' := _)

/-- The same without the counters. -/
theorem run_main : θ_run defs (onTc (τ := τ) (main (F := F))) (s₀ m ρ) (Pipeline.RDat.FramePost (cfgs 0) (rdat m) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (rdat m) (A_eq m) (run_main m ρ)

/-- THE FRAME: the arguments end unchanged and every counter at zero, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Hand

end
-- ==== Proof.Alg.Quant.lean ====
/- The scale of the quantiser, over the extended reals: the kernel's search for the largest power of two at or below a number against
   the reference's count of the powers of two at or below it. Both give the power of two above the number and its reciprocal. -/
module

public import Idealize.ShloMosaic.PureOps.Ideal
public import Mathlib.Tactic.NormNum
public import Mathlib.Analysis.SpecialFunctions.Pow.Real

@[expose] public section

noncomputable section

namespace Cert.Alg

open Idealize.ShloMosaic

/-- The power of two `2 ^ n`, an extended real. -/
def E (n : ℤ) : EReal := (((2 : ℝ) ^ n : ℝ) : EReal)

theorem E_mul (a b : ℤ) : E a * E b = E (a + b) := by
  unfold E; rw [← EReal.coe_mul, ← zpow_add₀ (by norm_num)]

theorem E_le {a b : ℤ} (h : a ≤ b) : E a ≤ E b := by
  unfold E; rw [EReal.coe_le_coe_iff]; exact zpow_le_zpow_right₀ (by norm_num) h

theorem exp2_int (n : ℤ) : Ideal.exp2 (((n : ℝ) : ℝ) : EReal) = E n := by
  unfold E; rw [Ideal.exp2_coe]; congr 1; exact Real.rpow_intCast 2 n

/-! ## The literals -/

theorem lit_1 : Ideal.ofBits .f32 0x3F800000#32 = E 0 := by
  unfold E; simp [Ideal.ofBits, Ideal.ieee, -EReal.coe_mul, -EReal.coe_pow]; norm_num
theorem lit_2 : Ideal.ofBits .f32 0x40000000#32 = E 1 := by
  unfold E; simp [Ideal.ofBits, Ideal.ieee, -EReal.coe_mul, -EReal.coe_pow]; norm_num
theorem lit_4 : Ideal.ofBits .f32 0x40800000#32 = E 2 := by
  unfold E; simp [Ideal.ofBits, Ideal.ieee, -EReal.coe_mul, -EReal.coe_pow]; norm_num
theorem lit_p4 : Ideal.ofBits .f32 0x41800000#32 = E 4 := by
  unfold E; simp [Ideal.ofBits, Ideal.ieee, -EReal.coe_mul, -EReal.coe_pow]; norm_num
theorem lit_p8 : Ideal.ofBits .f32 0x43800000#32 = E 8 := by
  unfold E; simp [Ideal.ofBits, Ideal.ieee, -EReal.coe_mul, -EReal.coe_pow]; norm_num
theorem lit_p16 : Ideal.ofBits .f32 0x47800000#32 = E 16 := by
  unfold E; simp [Ideal.ofBits, Ideal.ieee, -EReal.coe_mul, -EReal.coe_pow]; norm_num
theorem lit_p32 : Ideal.ofBits .f32 0x4F800000#32 = E 32 := by
  unfold E; simp [Ideal.ofBits, Ideal.ieee, -EReal.coe_mul, -EReal.coe_pow]; norm_num
theorem lit_p64 : Ideal.ofBits .f32 0x5F800000#32 = E 64 := by
  unfold E; simp [Ideal.ofBits, Ideal.ieee, -EReal.coe_mul, -EReal.coe_pow]; norm_num
theorem lit_m126 : Ideal.ofBits .f32 0x00800000#32 = E (-126) := by
  unfold E; simp [Ideal.ofBits, Ideal.ieee, -EReal.coe_mul, -EReal.coe_pow]; norm_num
theorem lit_p125 : Ideal.ofBits .f32 0x7E000000#32 = E 125 := by
  unfold E; simp [Ideal.ofBits, Ideal.ieee, -EReal.coe_mul, -EReal.coe_pow]; norm_num
theorem lit_m3 : Ideal.ofBits .f32 0x3E000000#32 = E (-3) := by
  unfold E; simp [Ideal.ofBits, Ideal.ieee, -EReal.coe_mul, -EReal.coe_pow]; norm_num
theorem lit_m1 : Ideal.ofBits .f32 0x3F000000#32 = E (-1) := by
  unfold E; simp [Ideal.ofBits, Ideal.ieee, -EReal.coe_mul, -EReal.coe_pow]; norm_num
theorem lit_m2 : Ideal.ofBits .f32 0x3E800000#32 = E (-2) := by
  unfold E; simp [Ideal.ofBits, Ideal.ieee, -EReal.coe_mul, -EReal.coe_pow]; norm_num
theorem lit_m4 : Ideal.ofBits .f32 0x3D800000#32 = E (-4) := by
  unfold E; simp [Ideal.ofBits, Ideal.ieee, -EReal.coe_mul, -EReal.coe_pow]; norm_num
theorem lit_m8 : Ideal.ofBits .f32 0x3B800000#32 = E (-8) := by
  unfold E; simp [Ideal.ofBits, Ideal.ieee, -EReal.coe_mul, -EReal.coe_pow]; norm_num
theorem lit_m16 : Ideal.ofBits .f32 0x37800000#32 = E (-16) := by
  unfold E; simp [Ideal.ofBits, Ideal.ieee, -EReal.coe_mul, -EReal.coe_pow]; norm_num
theorem lit_m32 : Ideal.ofBits .f32 0x2F800000#32 = E (-32) := by
  unfold E; simp [Ideal.ofBits, Ideal.ieee, -EReal.coe_mul, -EReal.coe_pow]; norm_num
theorem lit_m64 : Ideal.ofBits .f32 0x1F800000#32 = E (-64) := by
  unfold E; simp [Ideal.ofBits, Ideal.ieee, -EReal.coe_mul, -EReal.coe_pow]; norm_num
theorem lit_126 : Ideal.ofBits .f32 0x42FC0000#32 = ((126 : ℝ) : EReal) := by
  simp [Ideal.ofBits, Ideal.ieee, -EReal.coe_mul, -EReal.coe_pow]; norm_num

/-! ## The search -/

/-- One step of the search: multiply by `l` if `p k` still lies at or below `q`. -/
def stS (q p d k l : EReal) : EReal := if p * k ≤ q then d * l else d

/-- The search at width `w`: `p` is a power of two at or below `q`, no power at distance `w` or more lies at or below `q` (of the
    256 that count), and `d` is half the reciprocal of `p`. -/
def St (q : EReal) (w : ℤ) (p d : EReal) : Prop :=
  ∃ n : ℤ, p = E n ∧ d = E (-(n + 1)) ∧ -126 ≤ n ∧ n + w ≤ 130 ∧ E n ≤ q ∧ ∀ k, n + w ≤ k → k ≤ 129 → ¬ E k ≤ q

theorem St.step {q p d : EReal} {w s : ℤ} (h : St q w p d) (hw : w = 2 * s) (hs : 0 ≤ s) {k l : EReal} (hk : k = E s) (hl : l = E (-s)) :
    St q s (stS q p p k k) (stS q p d k l) := by
  obtain ⟨n, hp, hd, h1, h2, h3, h4⟩ := h
  subst hk hl hp hd hw
  unfold stS
  rw [E_mul n s]
  by_cases hq : E (n + s) ≤ q
  · rw [if_pos hq, if_pos hq]
    refine ⟨n + s, rfl, ?_, by omega, by omega, hq, fun k h h' => h4 k (by omega) h'⟩
    rw [E_mul]; congr 1; omega
  · rw [if_neg hq, if_neg hq]
    exact ⟨n, rfl, rfl, h1, by omega, h3, fun k h h' hk => hq ((E_le h).trans hk)⟩

def p0S (q : EReal) : EReal := if Ideal.ofBits .f32 0x40800000#32 ≤ q then Ideal.ofBits .f32 0x40800000#32 else Ideal.ofBits .f32 0x00800000#32
def d0S (q : EReal) : EReal := if Ideal.ofBits .f32 0x40800000#32 ≤ q then Ideal.ofBits .f32 0x3E000000#32 else Ideal.ofBits .f32 0x7E000000#32
def p1S (q : EReal) : EReal := stS q (p0S q) (p0S q) (Ideal.ofBits .f32 0x5F800000#32) (Ideal.ofBits .f32 0x5F800000#32)
def d1S (q : EReal) : EReal := stS q (p0S q) (d0S q) (Ideal.ofBits .f32 0x5F800000#32) (Ideal.ofBits .f32 0x1F800000#32)
def p2S (q : EReal) : EReal := stS q (p1S q) (p1S q) (Ideal.ofBits .f32 0x4F800000#32) (Ideal.ofBits .f32 0x4F800000#32)
def d2S (q : EReal) : EReal := stS q (p1S q) (d1S q) (Ideal.ofBits .f32 0x4F800000#32) (Ideal.ofBits .f32 0x2F800000#32)
def p3S (q : EReal) : EReal := stS q (p2S q) (p2S q) (Ideal.ofBits .f32 0x47800000#32) (Ideal.ofBits .f32 0x47800000#32)
def d3S (q : EReal) : EReal := stS q (p2S q) (d2S q) (Ideal.ofBits .f32 0x47800000#32) (Ideal.ofBits .f32 0x37800000#32)
def p4S (q : EReal) : EReal := stS q (p3S q) (p3S q) (Ideal.ofBits .f32 0x43800000#32) (Ideal.ofBits .f32 0x43800000#32)
def d4S (q : EReal) : EReal := stS q (p3S q) (d3S q) (Ideal.ofBits .f32 0x43800000#32) (Ideal.ofBits .f32 0x3B800000#32)
def p5S (q : EReal) : EReal := stS q (p4S q) (p4S q) (Ideal.ofBits .f32 0x41800000#32) (Ideal.ofBits .f32 0x41800000#32)
def d5S (q : EReal) : EReal := stS q (p4S q) (d4S q) (Ideal.ofBits .f32 0x41800000#32) (Ideal.ofBits .f32 0x3D800000#32)
def p6S (q : EReal) : EReal := stS q (p5S q) (p5S q) (Ideal.ofBits .f32 0x40800000#32) (Ideal.ofBits .f32 0x40800000#32)
def d6S (q : EReal) : EReal := stS q (p5S q) (d5S q) (Ideal.ofBits .f32 0x40800000#32) (Ideal.ofBits .f32 0x3E800000#32)
def p7S (q : EReal) : EReal := stS q (p6S q) (p6S q) (Ideal.ofBits .f32 0x40000000#32) (Ideal.ofBits .f32 0x40000000#32)
def d7S (q : EReal) : EReal := stS q (p6S q) (d6S q) (Ideal.ofBits .f32 0x40000000#32) (Ideal.ofBits .f32 0x3F000000#32)

/-- The kernel's scale, -/
def upS (q : EReal) : EReal := if q < Ideal.ofBits .f32 0x00800000#32 then 1 else p7S q * Ideal.ofBits .f32 0x40000000#32
/-- and its reciprocal. -/
def downS (q : EReal) : EReal := if q < Ideal.ofBits .f32 0x00800000#32 then 1 else d7S q

theorem search (q : EReal) (h : E (-126) ≤ q) : St q 1 (p7S q) (d7S q) := by
  have h0 : St q 128 (p0S q) (d0S q) := by
    unfold p0S d0S
    rw [lit_4, lit_m126, lit_m3, lit_p125]
    by_cases hb : E 2 ≤ q
    · rw [if_pos hb, if_pos hb]
      exact ⟨2, rfl, rfl, by omega, by omega, hb, fun k h1 h2 => by omega⟩
    · rw [if_neg hb, if_neg hb]
      exact ⟨-126, rfl, rfl, by omega, by omega, h, fun k h1 h2 hk => hb ((E_le (by omega)).trans hk)⟩
  have h1 : St q 64 (p1S q) (d1S q) := h0.step (by omega) (by omega) lit_p64 lit_m64
  have h2 : St q 32 (p2S q) (d2S q) := h1.step (by omega) (by omega) lit_p32 lit_m32
  have h3 : St q 16 (p3S q) (d3S q) := h2.step (by omega) (by omega) lit_p16 lit_m16
  have h4 : St q 8 (p4S q) (d4S q) := h3.step (by omega) (by omega) lit_p8 lit_m8
  have h5 : St q 4 (p5S q) (d5S q) := h4.step (by omega) (by omega) lit_p4 lit_m4
  have h6 : St q 2 (p6S q) (d6S q) := h5.step (by omega) (by omega) lit_4 lit_m2
  exact h6.step (by omega) (by omega) lit_2 lit_m1

/-! ## The count -/

/-- How many of the 256 powers of two from `2 ^ -126` on lie at or below `q`. -/
def countS (q : EReal) : EReal := ∑ k : Fin 256, if E ((k.val : ℤ) - 126) ≤ q then (1 : EReal) else 0

/-- The exponent of the reference's scale. -/
def eS (q : EReal) : EReal := if countS q = 0 then 0 else countS q - Ideal.ofBits .f32 0x42FC0000#32

theorem count_of (q : EReal) (N : ℕ) (hN : N < 256) (h : ∀ k : Fin 256, E ((k.val : ℤ) - 126) ≤ q ↔ k.val ≤ N) :
    countS q = (((N + 1 : ℕ) : ℝ) : EReal) := by
  unfold countS
  rw [Finset.sum_boole, show (Finset.univ.filter fun k : Fin 256 => E ((k.val : ℤ) - 126) ≤ q) = Finset.Iic (⟨N, hN⟩ : Fin 256) from by
    ext k; simp only [Finset.mem_filter, Finset.mem_univ, true_and, Finset.mem_Iic, h k]; exact Iff.rfl]
  rw [Fin.card_Iic]
  exact (EReal.coe_natCast).symm

theorem count_zero (q : EReal) (h : ¬ E (-126) ≤ q) : countS q = 0 := by
  unfold countS
  refine Finset.sum_eq_zero fun k _ => if_neg fun hk => h ((E_le (by have := k.isLt; omega)).trans hk)

/-- The two quantisers agree: the scale, and its reciprocal. -/
theorem quant (q : EReal) : upS q = Ideal.exp2 (eS q) ∧ downS q = Ideal.exp2 (0 - eS q) := by
  have e0 : Ideal.exp2 (0 : EReal) = 1 := by
    have := exp2_int 0
    simpa [E] using this
  unfold upS downS eS
  rw [lit_m126, lit_2, lit_126]
  by_cases h : E (-126) ≤ q
  · rw [if_neg (not_lt.mpr h), if_neg (not_lt.mpr h)]
    obtain ⟨n, hp, hd, h1, h2, h3, h4⟩ := search q h
    have hc : countS q = (((n + 127).toNat : ℝ) : EReal) := by
      have := count_of q (n + 126).toNat (by omega) fun k => by
        have := k.isLt
        constructor
        · intro hk
          by_contra hlt
          exact h4 ((k.val : ℤ) - 126) (by omega) (by omega) hk
        · intro hk
          exact (E_le (by omega)).trans h3
      rw [this]
      congr 2
      congr 1
      omega
    have hr : (((n + 127).toNat : ℕ) : ℝ) = ((n + 127 : ℤ) : ℝ) := by
      rw [← Int.cast_natCast]; congr 1; omega
    have hne : ¬ countS q = 0 := by
      rw [hc, hr]
      intro h0
      have : ((n + 127 : ℤ) : ℝ) = 0 := by exact_mod_cast h0
      have : (n + 127 : ℤ) = 0 := by exact_mod_cast this
      omega
    rw [if_neg hne, hc, hr, ← EReal.coe_sub, hp, hd, E_mul]
    have hs : (((n + 127 : ℤ) : ℝ) - 126) = ((n + 1 : ℤ) : ℝ) := by push_cast; norm_num [add_sub_assoc]
    rw [hs]
    refine ⟨(exp2_int _).symm, ?_⟩
    rw [← EReal.coe_zero, ← EReal.coe_sub, ← exp2_int]
    congr 2
    push_cast
    norm_num
  · rw [if_pos (not_le.mp h), if_pos (not_le.mp h), if_pos (count_zero q h)]
    refine ⟨e0.symm, ?_⟩
    rw [sub_zero]; exact e0.symm

end Cert.Alg

end
-- ==== Proof.Alg.Spec.lean ====
/- The computation of one token over the extended reals, as functions of its row of numbers: what both programs are compared with. -/
module

public import proofs.«01_k».proof.Proof.Alg.Quant

@[expose] public section

noncomputable section

namespace Cert.Alg

open Idealize.ShloMosaic

/-- The reciprocal root mean square of the latent. -/
def rstdR (c : Fin 512 → EReal) : EReal :=
  Ideal.rsqrt ((∑ x, c x * c x) * Ideal.ofBits .f32 0x3B000000#32 + Ideal.ofBits .f32 0x358637BD#32)

/-- A token's share of the gain's gradient. -/
def gR (c d : Fin 512 → EReal) (j : Fin 512) : EReal := d j * c j * rstdR c

/-- The gradient the norm hands back: `c` the latent, `d` the gradient of its output, `g` the gain. -/
def vR (c d g : Fin 512 → EReal) (j : Fin 512) : EReal :=
  rstdR c * (d j * g j - c j * (rstdR c * rstdR c) * ((∑ x, d x * g x * c x) * Ideal.ofBits .f32 0x3B000000#32))

/-- A group's largest magnitude over the largest fp8 number. -/
def qR {n : ℕ} (v : Fin n → EReal) : EReal :=
  Finset.univ.fold max (Ideal.ofBits .f32 0xFF800000#32) (fun x => FloatOps.absf (F := Ideal) (φ := .f32) (v x)) * Ideal.ofBits .f32 0x37924925#32

/-- The four groups of 128 numbers of the norm's gradient, -/
def grp (v : Fin 512 → EReal) (g : Fin 4) : Fin 128 → EReal := fun x => v ⟨128 * g.val + x.val, by have := g.isLt; have := x.isLt; omega⟩

/-- and the five groups' magnitudes, the rotary gradient's last. -/
def qG (v : Fin 512 → EReal) (k : Fin 64 → EReal) (g : Fin 5) : EReal := if h : g.val < 4 then qR (grp v ⟨g.val, h⟩) else qR k

/-- The whole row of the gradient. -/
def rowR (v : Fin 512 → EReal) (k : Fin 64 → EReal) (j : Fin 576) : EReal :=
  if h : j.val < 512 then v ⟨j.val, h⟩ else k ⟨j.val - 512, by have := j.isLt; omega⟩

/-- The group a column lies in. -/
def grpOf (j : Fin 576) : Fin 5 := ⟨j.val / 128, by have := j.isLt; omega⟩

/-- The codes. -/
def codeR (v : Fin 512 → EReal) (k : Fin 64 → EReal) (j : Fin 576) : EReal :=
  min (Ideal.ofBits .f32 0x47600000#32) (max (Ideal.ofBits .f32 0xC7600000#32) (rowR v k j * downS (qG v k (grpOf j))))

/-- The dequantised row. -/
def deqR (v : Fin 512 → EReal) (k : Fin 64 → EReal) (j : Fin 576) : EReal := codeR v k j * upS (qG v k (grpOf j))

/-- The rotary gradient turned back: `a` the angles, `d` the gradient. -/
def ropeR (a d : Fin 64 → EReal) (k : Fin 64) : EReal :=
  d k * Ideal.cos (a k) + (if h : k.val % 2 = 0 then d ⟨k.val + 1, by have := k.isLt; omega⟩
    else 0 - d ⟨k.val - 1, by have := k.isLt; omega⟩) * Ideal.sin (a k)

end Cert.Alg

end
-- ==== Proof.Alg.KRow.lean ====
/- What the kernel's body leaves, read element by element over the extended reals: the computation of `Spec.lean` of each token's row. -/
module

public import proofs.«01_k».proof.Proof.KI.Outs
public import proofs.«01_k».proof.Proof.Alg.Spec
public import Idealize.ShloMosaic.Lib.Pointwise

@[expose] public section

set_option maxRecDepth 65536

noncomputable section

namespace Cert.KernelIdeal.Hand

open Idealize.ShloMosaic Idealize.ShloMosaic.TcCoe Idealize.ShloMosaic.Tactic
open Cert.KernelIdeal.Gen Cert.Alg

/-- A row of a block. -/
def row {n0 n1 : ℕ} (x : (⟨2, ![n0, n1]⟩ : Shape).Idx → EReal) (r : Fin n0) : Fin n1 → EReal := fun j => x (ix2 r j)

theorem up_at (q : FVec Ideal S256x1 .f32) (r : Fin 256) : upF q (ix2 r 0) = upS (q (ix2 r 0)) := by
  pointwise [upF, tinyF, bigF, kF, p7F, p6F, p5F, p4F, p3F, p2F, p1F, p0F, stepF, geF, upS, p7S, p6S, p5S, p4S, p3S, p2S, p1S, p0S, stS]

theorem down_at (q : FVec Ideal S256x1 .f32) (r : Fin 256) : downF q (ix2 r 0) = downS (q (ix2 r 0)) := by
  pointwise [downF, tinyF, bigF, kF, p7F, p6F, p5F, p4F, p3F, p2F, p1F, p0F, d7F, d6F, d5F, d4F, d3F, d2F, d1F, d0F, stepF, geF, downS, p7S,
    p6S, p5S, p4S, p3S, p2S, p1S, p0S, d7S, d6S, d5S, d4S, d3S, d2S, d1S, d0S, stS]

theorem qN_at (v : FVec Ideal S256x128 .f32) (r : Fin 256) : qN v (ix2 r 0) = qR (row v r) := by
  pointwise [qN, kF, qR, row]

theorem qK_at (v : FVec Ideal S256x64 .f32) (r : Fin 256) : qK v (ix2 r 0) = qR (row v r) := by
  pointwise [qK, kF, qR, row]

theorem row_colN (v : FVec Ideal S256x512 .f32) (g : Fin 4) (r : Fin 256) : row (colN v g) r = grp (row v r) g := by
  funext x; rfl

theorem norm_at (c : FVec Ideal S256x512 .f32) (x7 : Vec Ideal S256x512 .bf16) (x4 : Vec Ideal S1x512 .f32) (r : Fin 256) (j : Fin 512) :
    normF c x7 x4 (ix2 r j) = vR (row c r) (row x7 r) (row x4 0) j := by
  pointwise [normF, k0_pay421, k0_pay415, k0_pay417, msF, vR, rstdR, row]

theorem gain_hi_at (c : FVec Ideal S256x512 .f32) (x7 : Vec Ideal S256x512 .bf16) (j : Fin 512) :
    k0_pay420 c (k0_pay415 x7) (msF c) (ix2 0 j) = ∑ x : Fin 128, gR (row c ⟨128 + x.val, by have := x.isLt; omega⟩) (row x7 ⟨128 + x.val, by have := x.isLt; omega⟩) j := by
  pointwise [k0_pay420, k0_pay418, k0_pay417, k0_pay415, msF, gR, rstdR, row]

theorem gain_lo_at (c : FVec Ideal S256x512 .f32) (x7 : Vec Ideal S256x512 .bf16) (j : Fin 512) :
    k0_pay419 c (k0_pay415 x7) (msF c) (ix2 0 j) = ∑ x : Fin 128, gR (row c ⟨x.val, by have := x.isLt; omega⟩) (row x7 ⟨x.val, by have := x.isLt; omega⟩) j := by
  pointwise [k0_pay419, k0_pay418, k0_pay417, k0_pay415, msF, gR, rstdR, row]

theorem codeN_at (v : FVec Ideal S256x128 .f32) (r : Fin 256) (j : Fin 128) :
    codeN v (ix2 r j) = min (Ideal.ofBits .f32 0x47600000#32) (max (Ideal.ofBits .f32 0xC7600000#32) (v (ix2 r j) * downS (qR (row v r)))) := by
  pointwise [codeN]
  rw [down_at, qN_at]

theorem codeK_at (v : FVec Ideal S256x64 .f32) (r : Fin 256) (j : Fin 64) :
    codeK v (ix2 r j) = min (Ideal.ofBits .f32 0x47600000#32) (max (Ideal.ofBits .f32 0xC7600000#32) (v (ix2 r j) * downS (qR (row v r)))) := by
  pointwise [codeK]
  rw [down_at, qK_at]

theorem deqN_at (v : FVec Ideal S256x128 .f32) (r : Fin 256) (j : Fin 128) :
    deqN v (ix2 r j) = codeN v (ix2 r j) * upS (qR (row v r)) := by
  pointwise [deqN]
  rw [up_at, qN_at]

/-- A column of one of the four groups, among the whole row's columns. -/
theorem rowR_grp (v : Fin 512 → EReal) (k : Fin 64 → EReal) (g : Fin 4) (x : Fin 128) (j : Fin 576) (h : j.val = 128 * g.val + x.val) :
    rowR v k j = grp v g x ∧ qG v k (grpOf j) = qR (grp v g) := by
  have hg := g.isLt
  have hx := x.isLt
  constructor
  · unfold rowR grp
    rw [dif_pos (by omega)]
    congr 1
    exact Fin.ext h
  · unfold qG grpOf
    rw [dif_pos (show j.val / 128 < 4 by omega)]
    congr 2
    exact Fin.ext (show j.val / 128 = g.val by omega)

/-- A column of the rotary part. -/
theorem rowR_rope (v : Fin 512 → EReal) (k : Fin 64 → EReal) (x : Fin 64) (j : Fin 576) (h : j.val = 512 + x.val) :
    rowR v k j = k x ∧ qG v k (grpOf j) = qR k := by
  have hx := x.isLt
  constructor
  · unfold rowR
    rw [dif_neg (by omega)]
    congr 1
    exact Fin.ext (show j.val - 512 = x.val by omega)
  · unfold qG grpOf
    rw [dif_neg (show ¬ j.val / 128 < 4 by omega)]

theorem codes_at (v : FVec Ideal S256x512 .f32) (k : FVec Ideal S256x64 .f32) (r : Fin 256) (j : Fin 576) :
    codesF v k (ix2 r j) = codeR (row v r) (row k r) j := by
  have hj := j.isLt
  unfold codesF codeR
  by_cases h : j.val < 512
  · rw [dif_pos (show ((ix2 r j : S256x576.Idx) 1).val < 512 from h)]
    obtain ⟨h1, h2⟩ := rowR_grp (row v r) (row k r) ⟨j.val / 128, by omega⟩ ⟨j.val % 128, by omega⟩ j (by show j.val = 128 * (j.val / 128) + j.val % 128; omega)
    rw [h1, h2]
    refine (codeN_at _ r ⟨j.val % 128, by omega⟩).trans ?_
    rw [row_colN]
    rfl
  · rw [dif_neg (show ¬ ((ix2 r j : S256x576.Idx) 1).val < 512 from h)]
    obtain ⟨h1, h2⟩ := rowR_rope (row v r) (row k r) ⟨j.val - 512, by omega⟩ j (by show j.val = 512 + (j.val - 512); omega)
    rw [h1, h2]
    exact codeK_at _ r ⟨j.val - 512, by omega⟩

theorem deq_grp (v : FVec Ideal S256x512 .f32) (k : FVec Ideal S256x64 .f32) (r : Fin 256) (g : Fin 4) (x : Fin 128) (j : Fin 576)
    (h : j.val = 128 * g.val + x.val) : deqN (colN v g) (ix2 r x) = deqR (row v r) (row k r) j := by
  obtain ⟨h1, h2⟩ := rowR_grp (row v r) (row k r) g x j h
  rw [deqN_at, codeN_at, row_colN]
  unfold deqR codeR
  rw [h1, h2]
  rfl

theorem grad_at (v : FVec Ideal S256x512 .f32) (k : FVec Ideal S256x64 .f32) (r : Fin 256) (j : Fin 576) :
    gradF v k (ix2 r j) = deqR (row v r) (row k r) j := by
  have hj := j.isLt
  pointwise [gradF, k0_pay586]
  by_cases h0 : j.val < 128
  · rw [dif_pos h0]; exact deq_grp v k r 0 _ j (by show j.val = 128 * 0 + j.val; omega)
  rw [dif_neg h0]
  by_cases h1 : j.val - 128 < 128
  · rw [dif_pos h1]; exact deq_grp v k r 1 _ j (by show j.val = 128 * 1 + (j.val - 128); omega)
  rw [dif_neg h1]
  by_cases h2 : j.val - 128 - 128 < 128
  · rw [dif_pos h2]; exact deq_grp v k r 2 _ j (by show j.val = 128 * 2 + (j.val - 128 - 128); omega)
  rw [dif_neg h2]
  by_cases h3 : j.val - 128 - 128 - 128 < 128
  · rw [dif_pos h3]; exact deq_grp v k r 3 _ j (by show j.val = 128 * 3 + (j.val - 128 - 128 - 128); omega)
  rw [dif_neg h3]
  obtain ⟨e1, e2⟩ := rowR_rope (row v r) (row k r) ⟨j.val - 128 - 128 - 128 - 128, by omega⟩ j (by show j.val = 512 + (j.val - 128 - 128 - 128 - 128); omega)
  rw [codeK_at, up_at, qK_at]
  unfold deqR codeR
  rw [e1, e2]
  rfl

theorem scales_at (v : FVec Ideal S256x512 .f32) (k : FVec Ideal S256x64 .f32) (r : Fin 256) (g : Fin 5) :
    scalesF v k (ix2 r g) = upS (qG (row v r) (row k r) g) := by
  pointwise [scalesF, laneF, k0_pay433]
  rw [up_at, up_at, up_at, up_at, up_at, qN_at, qN_at, qN_at, qN_at, qK_at, row_colN, row_colN, row_colN, row_colN]
  fin_cases g <;> rfl

theorem rope_at (pos : Vec Ideal S1x256 .i32) (fr : Vec Ideal S64x256 .f32) (d : Vec Ideal S256x64 .bf16) (r : Fin 256) (k : Fin 64) :
    dkF pos fr d (ix2 r k) = ropeR (fun x => fr (ix2 x r) * FloatOps.sitofp (F := Ideal) .f32 (pos (ix2 0 r))) (row d r) k := by
  have hk := k.isLt
  have hw : ∀ k : Fin 64, (IntOp.cmpi CmpIPredicate.eq
            (Scalar.select
              (IntOp.andi
                (IntOp.xori
                  (IntOp.cmpi CmpIPredicate.slt
                    (IntOp.remsi ArithUnit.vector (BitVec.ofNat 32 k.val)
                      (Scalar.select (Scalar.cmpi CmpIPredicate.eq 2#32 0#32) 1#32 2#32))
                    0#32)
                  (Scalar.cmpi CmpIPredicate.slt (Scalar.select (Scalar.cmpi CmpIPredicate.eq 2#32 0#32) 1#32 2#32)
                    0#32))
                (IntOp.cmpi CmpIPredicate.ne
                  (IntOp.remsi ArithUnit.vector (BitVec.ofNat 32 k.val)
                    (Scalar.select (Scalar.cmpi CmpIPredicate.eq 2#32 0#32) 1#32 2#32))
                  0#32))
              (IntOp.addi
                (IntOp.remsi ArithUnit.vector (BitVec.ofNat 32 k.val)
                  (Scalar.select (Scalar.cmpi CmpIPredicate.eq 2#32 0#32) 1#32 2#32))
                (Scalar.select (Scalar.cmpi CmpIPredicate.eq 2#32 0#32) 1#32 2#32))
              (IntOp.remsi ArithUnit.vector (BitVec.ofNat 32 k.val)
                (Scalar.select (Scalar.cmpi CmpIPredicate.eq 2#32 0#32) 1#32 2#32)))
            0#32) = if k.val % 2 = 0 then 1#1 else 0#1 := by decide +kernel
  pointwise [dkF, k0_pay432, k0_pay431, k0_pay430, k0_pay429, k0_pay428, k0_pay427, k0_pay426, k0_pay425, k0_pay424, k0_pay423, k0_pay422]
  rw [hw k]
  unfold ropeR row
  by_cases h : k.val % 2 = 0
  · rw [if_pos h, dif_pos h, dif_pos (show k.val < 63 by omega)]
    have e : (⟨1 + k.val, by omega⟩ : Fin 64) = ⟨k.val + 1, by omega⟩ := Fin.ext (Nat.add_comm _ _)
    rw [← e]
    rfl
  · rw [if_neg h, dif_neg h, dif_neg (show ¬ k.val < 1 by omega)]
    rfl

theorem dx_at (g : FVec Ideal S256x576 .bf16) (w : Vec Ideal S7168x576 .bf16) (r : Fin 256) (n : Fin 7168) :
    dxX g w (ix2 r n) = ∑ x : Fin 576, g (ix2 r x) * w (ix2 n x) := by
  have hn := n.isLt
  unfold dxX
  have h : ∀ (g : FVec Ideal S256x576 .bf16) (w : Vec Ideal S1024x576 .bf16) (r : Fin 256) (j : Fin 1024),
      dxF g w (ix2 r j) = ∑ x : Fin 576, g (ix2 r x) * w (ix2 j x) := by
    intro g w r j
    pointwise [dxF]
  refine (h g _ r ⟨n.val % 1024, by omega⟩).trans ?_
  refine Finset.sum_congr rfl fun x _ => ?_
  unfold wRows
  refine congrArg (g (ix2 r x) * ·) (congrArg w ?_)
  refine (ix2_inj ..).2 ⟨Fin.ext ?_, rfl⟩
  show 1024 * (n.val / 1024) + n.val % 1024 = n.val
  omega

theorem lat_at (x0 : Vec Ideal S256x7168 .fp8e4m3) (x1 : Vec Ideal S256x56 .f32) (x2 : Vec Ideal S7168x576 .fp8e4m3) (x3 : Vec Ideal S56x5 .f32)
    (r : Fin 256) (j : Fin 512) :
    latX x0 x1 x2 x3 (ix2 r j) = ∑ x : Fin 7168,
      (x0 (ix2 r x) * x1 (ix2 r ⟨x.val / 128, by have := x.isLt; omega⟩)) * Wf x2 x3 (ix2 x ⟨j.val, by have := j.isLt; omega⟩) := by
  pointwise [latX, latF, xwF]
  refine Finset.sum_congr rfl fun x _ => ?_
  refine congrArg₂ (· * ·) rfl (congrArg (Wf x2 x3) ?_)
  refine (ix2_inj ..).2 ⟨Fin.ext ?_, Fin.ext ?_⟩ <;> simp

end Cert.KernelIdeal.Hand

end
-- ==== Proof.Alg.Whole.lean ====
/- The four results over the extended reals, as functions of the eight arguments. -/
module

public import proofs.«01_k».proof.Proof.Alg.Spec
public import Idealize.ShloMosaic.Lib.Pointwise

@[expose] public section

noncomputable section

namespace Cert.Alg

open Idealize.ShloMosaic

/-- The eight arguments: the activations' codes and scales, the weight's codes and scales, the gain, the positions, the gradients of
    the normed latent and of the rotary key. -/
structure In where
  x : (⟨3, ![2, 1024, 7168]⟩ : Shape).Idx → EReal
  xs : (⟨3, ![2, 1024, 56]⟩ : Shape).Idx → EReal
  w : (⟨2, ![7168, 576]⟩ : Shape).Idx → EReal
  ws : (⟨2, ![56, 5]⟩ : Shape).Idx → EReal
  g : (⟨1, ![512]⟩ : Shape).Idx → EReal
  pos : (⟨2, ![2, 1024]⟩ : Shape).Idx → BitVec 32
  d : (⟨3, ![2, 1024, 512]⟩ : Shape).Idx → EReal
  k : (⟨3, ![2, 1024, 64]⟩ : Shape).Idx → EReal

variable (A : In)

/-- A token's batch and place in the sequence. -/
def bat (n : Fin 2048) : Fin 2 := ⟨n.val / 1024, by have := n.isLt; omega⟩
def plc (n : Fin 2048) : Fin 1024 := ⟨n.val % 1024, by omega⟩

/-- The dequantised activations and weight. -/
def xW (n : Fin 2048) (y : Fin 7168) : EReal :=
  A.x (ix3 (bat n) (plc n) y) * A.xs (ix3 (bat n) (plc n) ⟨y.val / 128, by have := y.isLt; omega⟩)
def wW (y : Fin 7168) (j : Fin 576) : EReal :=
  A.w (ix2 y j) * A.ws (ix2 ⟨y.val / 128, by have := y.isLt; omega⟩ ⟨j.val / 128, by have := j.isLt; omega⟩)

/-- The latent, -/
def cW (n : Fin 2048) (j : Fin 512) : EReal := ∑ y : Fin 7168, xW A n y * wW A y ⟨j.val, by have := j.isLt; omega⟩

/-- its gradient's row and the gain, -/
def dW (n : Fin 2048) (j : Fin 512) : EReal := A.d (ix3 (bat n) (plc n) j)
def gW (j : Fin 512) : EReal := A.g (ix1 j)

/-- the rotary frequencies and angles, -/
def freqW (k : Fin 64) : EReal :=
  Ideal.div 1 (Ideal.pow (Ideal.ofBits .f32 0x461C4000#32) (Ideal.div (Ideal.ofBits .f32 0x40000000#32 *
    FloatOps.sitofp (F := Ideal) .f32 (BitVec.ofNat 32 (k.val / 2))) (Ideal.ofBits .f32 0x42800000#32)))
def angW (n : Fin 2048) (k : Fin 64) : EReal := freqW k * FloatOps.sitofp (F := Ideal) .f32 (A.pos (ix2 (bat n) (plc n)))

/-- the gradient's two parts, -/
def vW (n : Fin 2048) : Fin 512 → EReal := vR (cW A n) (dW A n) (gW A)
def kW (n : Fin 2048) : Fin 64 → EReal := ropeR (angW A n) (fun k => A.k (ix3 (bat n) (plc n) k))

/-- and the four results. -/
def dxW (n : Fin 2048) (j : Fin 7168) : EReal := ∑ y : Fin 576, deqR (vW A n) (kW A n) y * wW A j y
def gainW (i : Fin 16) (j : Fin 512) : EReal := ∑ y : Fin 128,
  gR (cW A ⟨i.val * 128 + y.val, by have := i.isLt; have := y.isLt; omega⟩) (dW A ⟨i.val * 128 + y.val, by have := i.isLt; have := y.isLt; omega⟩) j
def codesW (n : Fin 2048) (j : Fin 576) : EReal := codeR (vW A n) (kW A n) j
def scalesW (n : Fin 2048) (q : Fin 5) : EReal := upS (qG (vW A n) (kW A n) q)

end Cert.Alg

end
-- ==== Proof.Alg.KOut.lean ====
/- The kernel's four result arrays after its run: the results of `Whole.lean` of its arguments. -/
module

public import proofs.«01_k».proof.Proof.KI.Frame
public import proofs.«01_k».proof.Proof.Alg.KRow
public import proofs.«01_k».proof.Proof.Alg.Whole
public import Idealize.ShloMosaic.Lib.Pipeline.ValueKit

@[expose] public section

set_option maxRecDepth 65536

noncomputable section

namespace Cert.KernelIdeal.Hand

open Idealize.ShloMosaic Idealize.ShloMosaic.TcCoe Idealize.ShloMosaic.Tactic
open Cert.KernelIdeal.Gen Cert.Alg

variable (m : (ℓ : Loc nD τ sig) → Buf (Elt Ideal) ℓ) (c : Dev nD)

/-- The arguments. -/
def args : In where
  x := m ((c.tc : Thread nD τ).loc main_arg0)
  xs := m ((c.tc : Thread nD τ).loc main_arg1)
  w := m ((c.tc : Thread nD τ).loc main_arg2)
  ws := m ((c.tc : Thread nD τ).loc main_arg3)
  g := m ((c.tc : Thread nD τ).loc main_arg4)
  pos := m ((c.tc : Thread nD τ).loc main_arg5)
  d := m ((c.tc : Thread nD τ).loc main_arg6)
  k := m ((c.tc : Thread nD τ).loc main_arg7)

/-- The arguments laid out token by token by the host, -/
theorem x_host (n : Fin 2048) (y : Fin 7168) : V m c main_v15 (ix2 n y) = (args m c).x (ix3 (bat n) (plc n) y) := by
  entry_read
  pointwise
  rfl

theorem xs_host (n : Fin 2048) (y : Fin 56) : V m c main_v16 (ix2 n y) = (args m c).xs (ix3 (bat n) (plc n) y) := by
  entry_read
  pointwise
  rfl

theorem d_host (n : Fin 2048) (j : Fin 512) : V m c main_v18 (ix2 n j) = dW (args m c) n j := by
  entry_read
  pointwise
  rfl

theorem k_host (n : Fin 2048) (j : Fin 64) : V m c main_v19 (ix2 n j) = (args m c).k (ix3 (bat n) (plc n) j) := by
  entry_read
  pointwise
  rfl

theorem g_host (j : Fin 512) : V m c main_v17 (ix2 0 j) = gW (args m c) j := by
  entry_read
  pointwise
  rfl

/-- and the rotary frequencies, the same for each token of a point. -/
theorem freq_host (k : Fin 64) (r : Fin 256) : V m c main_v14 (ix2 k r) = freqW k := by
  entry_read
  pointwise
  rfl

/-- Where each window's block lies. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, t.val % 4] ∧ win0_6.index t = ![0, 0] ∧ win0_7.index t = ![t.val, 0]
    ∧ win0_8.index t = ![t.val, 0] ∧ win0_9.index t = ![t.val, 0] ∧ win0_10.index t = ![0, 0] ∧ win0_11.index t = ![t.val, 0]
    ∧ win0_12.index t = ![t.val, 0] ∧ t.val < 8 ∧ (grid0.coords t 0).val = t.val := (by decide +kernel : ∀ t : Fin grid0.N, _)

/-- A point's token. -/
def tok (t : Fin cfg0.N) (r : Fin 256) : Fin 2048 :=
  ⟨256 * t.val + r.val, by have := lt_of_lt_of_eq t.isLt (show cfg0.N = 8 from N_0); have := r.isLt; omega⟩

/-- The blocks' elements. -/
theorem x_blk (t : Fin cfg0.N) (r : Fin 256) (y : Fin 7168) : iblk m c 0 t (ix2 r y) = V m c main_v15 (ix2 (tok t r) y) := by
  blk_ext [iblk, idx t, tok]
theorem xs_blk (t : Fin cfg0.N) (r : Fin 256) (y : Fin 56) : iblk m c 1 t (ix2 r y) = V m c main_v16 (ix2 (tok t r) y) := by
  blk_ext [iblk, idx t, tok]
theorem w_blk (t : Fin cfg0.N) (y : Fin 7168) (j : Fin 576) : iblk m c 2 t (ix2 y j) = (args m c).w (ix2 y j) := by
  blk_ext [iblk, V, idx t, args]
theorem ws_blk (t : Fin cfg0.N) (y : Fin 56) (j : Fin 5) : iblk m c 3 t (ix2 y j) = (args m c).ws (ix2 y j) := by
  blk_ext [iblk, V, idx t, args]
theorem g_blk (t : Fin cfg0.N) (j : Fin 512) : iblk m c 4 t (ix2 0 j) = V m c main_v17 (ix2 0 j) := by
  blk_ext [iblk, idx t]
theorem freq_blk (t : Fin cfg0.N) (k : Fin 64) (r : Fin 256) : iblk m c 6 t (ix2 k r) = V m c main_v14 (ix2 k r) := by
  blk_ext [iblk, idx t]
theorem d_blk (t : Fin cfg0.N) (r : Fin 256) (j : Fin 512) : iblk m c 7 t (ix2 r j) = V m c main_v18 (ix2 (tok t r) j) := by
  blk_ext [iblk, idx t, tok]
theorem k_blk (t : Fin cfg0.N) (r : Fin 256) (j : Fin 64) : iblk m c 8 t (ix2 r j) = V m c main_v19 (ix2 (tok t r) j) := by
  blk_ext [iblk, idx t, tok]
theorem pos_blk (t : Fin cfg0.N) (b : Fin 2) (r : Fin 256) :
    iblk m c 5 t (ix2 b r) = (args m c).pos (ix2 b ⟨256 * (t.val % 4) + r.val, by have := r.isLt; omega⟩) := by
  blk_ext [iblk, V, idx t, args]

/-- The weight, -/
theorem w_row (y : Fin 7168) (j : Fin 576) : wX m c (ix2 y j) = wW (args m c) y j :=
  congrArg₂ (· * ·) (w_blk m c t0 y j) (ws_blk m c t0 ⟨y.val / 128, by have := y.isLt; omega⟩ ⟨j.val / 128, by have := j.isLt; omega⟩)

/-- the latent, -/
theorem lat_row (t : Fin cfg0.N) (r : Fin 256) : row (cX m c t) r = cW (args m c) (tok t r) := by
  funext j
  refine (lat_at _ _ _ _ r j).trans (Finset.sum_congr rfl fun y _ => ?_)
  exact congrArg₂ (· * ·) (congrArg₂ (· * ·) ((x_blk m c t r y).trans (x_host m c _ y)) ((xs_blk m c t r _).trans (xs_host m c _ _))) (w_row m c y _)

/-- the gradients, -/
theorem d_row (t : Fin cfg0.N) (r : Fin 256) : row (n0 := 256) (n1 := 512) (iblk m c 7 t) r = dW (args m c) (tok t r) :=
  funext fun j => (d_blk m c t r j).trans (d_host m c _ j)

theorem norm_row (t : Fin cfg0.N) (r : Fin 256) : row (vX m c t) r = vW (args m c) (tok t r) := by
  funext j
  refine (norm_at _ _ _ r j).trans ?_
  have h : row (n0 := 1) (n1 := 512) (iblk m c 4 t) 0 = gW (args m c) := funext fun j => (g_blk m c t j).trans (g_host m c j)
  rw [lat_row, d_row, h]
  rfl

/-- the token's position, -/
theorem pos_row (t : Fin cfg0.N) (r : Fin 256) :
    posRow (F := Ideal) (grid0.coords t) (iblk m c 5 t) (ix2 0 r) = (args m c).pos (ix2 (bat (tok t r)) (plc (tok t r))) := by
  have hr := r.isLt
  have hi := idx t
  have ht : t.val < 8 := hi.2.2.2.2.2.2.2.2.2.2.2.2.2.1
  have hc : (grid0.coords t 0).val = t.val := hi.2.2.2.2.2.2.2.2.2.2.2.2.2.2
  have e : (Rect.unit (s := S2x256) (k0_off2 (grid0.coords t)) S1x256.size (k0_off2_inb (grid0.coords t))).emb (ix2 0 r)
      = ix2 (n0 := 2) (n1 := 256) ⟨t.val / 4, by omega⟩ r := by
    refine funext fun a => Fin.ext ?_
    have ho := off2 (grid0.coords t)
    rw [hc] at ho
    match a with
    | ⟨0, _⟩ => show k0_off2 (grid0.coords t) 0 + 1 * 0 = t.val / 4; rw [ho]; rfl
    | ⟨1, _⟩ => show k0_off2 (grid0.coords t) 1 + 1 * r.val = r.val; rw [ho]; show 0 + 1 * r.val = r.val; omega
  refine (congrArg (iblk m c 5 t) e).trans ((pos_blk m c t _ r).trans (congrArg (args m c).pos ((ix2_inj ..).2 ⟨Fin.ext ?_, Fin.ext ?_⟩)))
  · show t.val / 4 = (256 * t.val + r.val) / 1024; omega
  · show 256 * (t.val % 4) + r.val = (256 * t.val + r.val) % 1024; omega

/-- and the rotary gradient of a point's token. -/
theorem rope_row (t : Fin cfg0.N) (r : Fin 256) : row (kX m c t) r = kW (args m c) (tok t r) := by
  funext k
  refine (rope_at _ _ _ r k).trans ?_
  have h : row (n0 := 256) (n1 := 64) (iblk m c 8 t) r = fun k => (args m c).k (ix3 (bat (tok t r)) (plc (tok t r)) k) :=
    funext fun j => (k_blk m c t r j).trans (k_host m c _ j)
  have ha : (fun x : Fin 64 => row (n0 := 64) (n1 := 256) (iblk m c 6 t) x r * FloatOps.sitofp (F := Ideal) .f32 (posRow (F := Ideal) (grid0.coords t) (iblk m c 5 t) (ix2 0 r)))
      = angW (args m c) (tok t r) := by
    funext x
    rw [pos_row]
    exact congrArg (· * _) ((freq_blk m c t x r).trans (freq_host m c x r))
  rw [h]
  exact congrArg (fun a => ropeR a _ k) ha

/-- The outputs of a point, element by element. -/
theorem dx_at_W (t : Fin cfg0.N) (r : Fin 256) (j : Fin 7168) :
    dxX (gradF (vX m c t) (kX m c t)) (wX m c) (ix2 r j) = dxW (args m c) (tok t r) j := by
  refine (dx_at _ _ r j).trans (Finset.sum_congr rfl fun y _ => ?_)
  rw [grad_at, norm_row, rope_row, w_row]

theorem codes_at_W (t : Fin cfg0.N) (r : Fin 256) (j : Fin 576) : codesF (vX m c t) (kX m c t) (ix2 r j) = codesW (args m c) (tok t r) j := by
  rw [codes_at, norm_row, rope_row]
  rfl

theorem scales_at_W (t : Fin cfg0.N) (r : Fin 256) (q : Fin 5) : scalesF (vX m c t) (kX m c t) (ix2 r q) = scalesW (args m c) (tok t r) q := by
  rw [scales_at, norm_row, rope_row]
  rfl

theorem gain_hi_W (t : Fin cfg0.N) (i : Fin 16) (hi : i.val = 2 * t.val + 1) (j : Fin 512) :
    k0_pay420 (cX m c t) (k0_pay415 (iblk m c 7 t)) (msF (cX m c t)) (ix2 0 j) = gainW (args m c) i j := by
  refine (gain_hi_at _ _ j).trans (Finset.sum_congr rfl fun y _ => ?_)
  rw [lat_row, d_row]
  have e : tok t ⟨128 + y.val, by have := y.isLt; omega⟩ = ⟨i.val * 128 + y.val, by have := i.isLt; have := y.isLt; omega⟩ :=
    Fin.ext (by show 256 * t.val + (128 + y.val) = i.val * 128 + y.val; omega)
  rw [e]

theorem gain_lo_W (t : Fin cfg0.N) (i : Fin 16) (hi : i.val = 2 * t.val) (j : Fin 512) :
    k0_pay419 (cX m c t) (k0_pay415 (iblk m c 7 t)) (msF (cX m c t)) (ix2 0 j) = gainW (args m c) i j := by
  refine (gain_lo_at _ _ j).trans (Finset.sum_congr rfl fun y _ => ?_)
  rw [lat_row, d_row]
  have e : tok t ⟨y.val, by have := y.isLt; omega⟩ = ⟨i.val * 128 + y.val, by have := i.isLt; have := y.isLt; omega⟩ :=
    Fin.ext (by show 256 * t.val + y.val = i.val * 128 + y.val; omega)
  rw [e]

/-- The last point. -/
def tL : Fin cfg0.N := ⟨7, by decide +kernel⟩

/-- The rows of the gain's gradient after the last point. -/
theorem gain_rows (X : Vec Ideal S16x512 .f32) (h : gainOk m c tL X) (i : Fin 16) (j : Fin 512) : X (ix2 i j) = gainW (args m c) i j := by
  have hi := i.isLt
  have hu : i.val / 2 < cfg0.N := lt_of_lt_of_eq (show i.val / 2 < 8 by omega) (show cfg0.N = 8 from N_0).symm
  have hx := h ⟨i.val / 2, hu⟩ (show i.val / 2 ≤ 7 by omega) (ix2 i j)
  by_cases hp : i.val % 2 = 0
  · exact (hx.2 (show i.val = 2 * (i.val / 2) by omega)).trans (gain_lo_W m c ⟨i.val / 2, hu⟩ i (show i.val = 2 * (i.val / 2) by omega) j)
  · exact (hx.1 (show i.val = 2 * (i.val / 2) + 1 by omega)).trans (gain_hi_W m c ⟨i.val / 2, hu⟩ i (show i.val = 2 * (i.val / 2) + 1 by omega) j)

variable (after : (w : Fin cfg0.W) → Fin cfg0.N → (cfg0.win w).block.Idx → Elt Ideal (cfg0.win w).elt)

/-- The four result arrays, of what the body left. -/
theorem dx_final (h : ∀ t, after 9 t = dxX (gradF (vX m c t) (kX m c t)) (wX m c)) :
    ((rdat m c).withAfter after).arrAt 9 cfg0.N = fun j : S2048x7168.Idx => dxW (args m c) (j 0) (j 1) := by
  refine Pipeline.Dat.arrAt_eq_of_covers _ 9 _ (by decide +kernel) fun t hf y => ?_
  rw [Pipeline.RDat.withAfter_after, h]
  blk_simp
  refine (congrArg _ (ix2_eta y).symm).trans ((dx_at_W m c t (y 0) (y 1)).trans ?_)
  congr 1 <;> refine Fin.ext ?_ <;> blk_simp [idx t, tok]
  exact congrArg (· + (y 0).val) (Nat.mul_comm 256 t.val)

theorem codes_final (h : ∀ t, after 11 t = codesF (vX m c t) (kX m c t)) :
    ((rdat m c).withAfter after).arrAt 11 cfg0.N = fun j : S2048x576.Idx => codesW (args m c) (j 0) (j 1) := by
  refine Pipeline.Dat.arrAt_eq_of_covers _ 11 _ (by decide +kernel) fun t hf y => ?_
  rw [Pipeline.RDat.withAfter_after, h]
  blk_simp
  refine (congrArg _ (ix2_eta y).symm).trans ((codes_at_W m c t (y 0) (y 1)).trans ?_)
  congr 1 <;> refine Fin.ext ?_ <;> blk_simp [idx t, tok]
  exact congrArg (· + (y 0).val) (Nat.mul_comm 256 t.val)

theorem scales_final (h : ∀ t, after 12 t = scalesF (vX m c t) (kX m c t)) :
    ((rdat m c).withAfter after).arrAt 12 cfg0.N = fun j : S2048x5.Idx => scalesW (args m c) (j 0) (j 1) := by
  refine Pipeline.Dat.arrAt_eq_of_covers _ 12 _ (by decide +kernel) fun t hf y => ?_
  rw [Pipeline.RDat.withAfter_after, h]
  blk_simp
  refine (congrArg _ (ix2_eta y).symm).trans ((scales_at_W m c t (y 0) (y 1)).trans ?_)
  congr 1 <;> refine Fin.ext ?_ <;> blk_simp [idx t, tok]
  exact congrArg (· + (y 0).val) (Nat.mul_comm 256 t.val)

theorem gain_final (h : gainOk m c tL (after 10 tL)) :
    ((rdat m c).withAfter after).arrAt 10 cfg0.N = fun j : S16x512.Idx => gainW (args m c) (j 0) (j 1) := by
  refine Pipeline.Dat.arrAt_eq_of_after_last _ 10 tL (by decide +kernel) _ fun j => ?_
  rw [Pipeline.RDat.withAfter_after]
  blk_simp
  exact (congrArg _ (ix2_eta j).symm).trans (gain_rows m c _ h (j 0) (j 1))

/-- What the body may leave in a window stated exactly. -/
theorem leaves_exact (w : Fin cfg0.W) (hw : rel0 w = false) (hl : cfg0.loose w = false) (t : Fin cfg0.N) (hf : (cfg0.win w).flush t = true)
    (X : (cfg0.win w).block.Idx → Elt Ideal (cfg0.win w).elt) (h : (rdat m c).Leaves w t X) : X = (dats m 0 c).after w t := by
  obtain ⟨Y, -, hY⟩ := h
  have e : (rdat m c).after w = (dats m 0 c).toR.after w := (dats m 0 c).toRRel_after_of_eq_false (fgt := rel0) (Rl := Rl m c) hw
  rw [e] at hY
  have h' := (Pipeline.Dat.Leaves.live_iff (dats m 0 c) (.inr hf)).mp hY
  rw [hl] at h'
  exact h'

/-- After the run the result arrays are the results of the arguments. -/
theorem results (r : PUnit × MemSt nD τ sig (Elt Ideal)) (h : Pipeline.RDat.FramePost (cfgs 0) (rdat m) (V m) r) :
    r.2.mem ((c.tc : Thread nD τ).loc main_v20_0) = (fun j : S2048x7168.Idx => dxW (args m c) (j 0) (j 1))
    ∧ r.2.mem ((c.tc : Thread nD τ).loc main_v20_1) = (fun j : S16x512.Idx => gainW (args m c) (j 0) (j 1))
    ∧ r.2.mem ((c.tc : Thread nD τ).loc main_v20_2) = (fun j : S2048x576.Idx => codesW (args m c) (j 0) (j 1))
    ∧ r.2.mem ((c.tc : Thread nD τ).loc main_v20_3) = (fun j : S2048x5.Idx => scalesW (args m c) (j 0) (j 1)) := by
  obtain ⟨after, hL, hA⟩ := h.exists_exact c
  refine ⟨(hA 9).trans (dx_final m c after fun t => ?_), (hA 10).trans (gain_final m c after ?_),
    (hA 11).trans (codes_final m c after fun t => ?_), (hA 12).trans (scales_final m c after fun t => ?_)⟩
  · exact (leaves_exact m c 9 rfl rfl t (flush0_9 t) _ (hL 9 t (flush0_9 t))).trans (after0_9 m c t)
  · exact (dats m 0 c).toRRel_leaves (fgt := rel0) (Rl := Rl m c) (w := 10) rfl (hL 10 tL ((flush0_10 tL).mpr rfl))
  · exact (leaves_exact m c 11 rfl rfl t (flush0_11 t) _ (hL 11 t (flush0_11 t))).trans (after0_11 m c t)
  · exact (leaves_exact m c 12 rfl rfl t (flush0_12 t) _ (hL 12 t (flush0_12 t))).trans (after0_12 m c t)

/-- The run, with its results. -/
theorem run_results (ρ : Dev nD → PrngReg) : θ_run defs (onTc (τ := τ) (main (F := Ideal))) ⟨m, fun _ => 0, ρ⟩ (fun r => ∀ c : Dev nD,
      r.2.mem ((c.tc : Thread nD τ).loc main_v20_0) = (fun j : S2048x7168.Idx => dxW (args m c) (j 0) (j 1))
      ∧ r.2.mem ((c.tc : Thread nD τ).loc main_v20_1) = (fun j : S16x512.Idx => gainW (args m c) (j 0) (j 1))
      ∧ r.2.mem ((c.tc : Thread nD τ).loc main_v20_2) = (fun j : S2048x576.Idx => codesW (args m c) (j 0) (j 1))
      ∧ r.2.mem ((c.tc : Thread nD τ).loc main_v20_3) = (fun j : S2048x5.Idx => scalesW (args m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => by
    obtain ⟨h0, h1, h2, h3⟩ := results m c r h
    exact ⟨h0, h1, h2, h3, kept m (rdat m) (A_eq m) r h c⟩) (run_main m ρ)

end Cert.KernelIdeal.Hand

end
-- ==== Proof.Alg.RRow.lean ====
/- What the reference's body leaves, read element by element over the extended reals: the computation of `Spec.lean` of each token's row. -/
module

public import proofs.«01_k».proof.Proof.Gen.ReferenceIdeal.Skeleton
public import proofs.«01_k».proof.Proof.Alg.Spec
public import Idealize.ShloMosaic.Lib.Pointwise
public import Mathlib.Tactic.NormNum

@[expose] public section

set_option maxRecDepth 65536

noncomputable section

namespace Cert.ReferenceIdeal.Hand

open Idealize.ShloMosaic Idealize.ShloMosaic.TcCoe Idealize.ShloMosaic.Tactic
open Cert.ReferenceIdeal.Gen Cert.Alg

/-- A row of an array. -/
def row {n0 n1 : ℕ} (x : (⟨2, ![n0, n1]⟩ : Shape).Idx → EReal) (r : Fin n0) : Fin n1 → EReal := fun j => x (ix2 r j)

/-- Dividing by 512 is multiplying by its reciprocal. -/
theorem div_512 (x : EReal) : Ideal.div x (Ideal.ofBits .f32 0x44000000#32) = x * Ideal.ofBits .f32 0x3B000000#32 := by
  have h1 : Ideal.ofBits .f32 0x44000000#32 = ((512 : ℝ) : EReal) := by
    simp [Ideal.ofBits, Ideal.ieee, -EReal.coe_mul, -EReal.coe_pow]; norm_num
  have h2 : Ideal.ofBits .f32 0x3B000000#32 = (((512 : ℝ)⁻¹ : ℝ) : EReal) := by
    simp [Ideal.ofBits, Ideal.ieee, -EReal.coe_mul, -EReal.coe_pow]; norm_num
  unfold Ideal.div
  rw [h1, h2, if_neg (by norm_num), EReal.coe_inv]

variable (w : Vec Ideal S7168x576 .fp8e4m3) (ws : Vec Ideal S7168x576 .bf16) (x : Vec Ideal S2048x7168 .fp8e4m3) (xs : Vec Ideal S2048x7168 .bf16)
  (d : Vec Ideal S2048x512 .bf16) (g : Vec Ideal S1x512 .f32) (k : Vec Ideal S2048x64 .f32)

theorem lat_at (n : Fin 2048) (j : Fin 512) : k0_pay3 w ws x xs (ix2 n j) = ∑ y : Fin 7168,
    (x (ix2 n y) * xs (ix2 n y)) * (w (ix2 y ⟨j.val, by have := j.isLt; omega⟩) * ws (ix2 y ⟨j.val, by have := j.isLt; omega⟩)) := by
  pointwise [k0_pay3, k0_pay2]

theorem rstd_at (n : Fin 2048) : k0_pay5 w ws x xs (ix2 n 0) = rstdR (row (k0_pay3 w ws x xs) n) := by
  pointwise [k0_pay5]
  unfold rstdR row
  rw [← div_512]

theorem gain_at (i : Fin 16) (j : Fin 512) : k0_pay6 w ws x xs d (ix2 i j) = ∑ y : Fin 128,
    gR (row (k0_pay3 w ws x xs) ⟨i.val * 128 + y.val, by have := i.isLt; have := y.isLt; omega⟩)
      (row d ⟨i.val * 128 + y.val, by have := i.isLt; have := y.isLt; omega⟩) j := by
  pointwise [k0_pay6, k0_pay4]
  refine Finset.sum_congr rfl fun y _ => ?_
  rw [rstd_at]
  rfl

theorem norm_at (n : Fin 2048) (j : Fin 512) :
    k0_pay10 (k0_pay5 w ws x xs) (k0_pay7 d g) (k0_pay8 w ws x xs) (k0_pay9 w ws x xs d g) (ix2 n j)
      = vR (row (k0_pay3 w ws x xs) n) (row d n) (row g 0) j := by
  pointwise [k0_pay10, k0_pay7, k0_pay8, k0_pay9, k0_pay4]
  rw [rstd_at, div_512]
  unfold vR row
  rfl

/-- A power of two of the reference's list. -/
theorem power_at (y : Fin 256) :
    FloatOps.exp2 (F := Ideal) (FloatOps.sitofp (F := Ideal) FTy.f32 (IntOp.subi (BitVec.ofNat 32 y.val) 126#32)) = E ((y.val : ℤ) - 126) := by
  have h : ∀ y : Fin 256, (IntOp.subi (BitVec.ofNat 32 y.val) 126#32).toInt = (y.val : ℤ) - 126 := by decide +kernel
  rw [← exp2_int, ← h y]
  rfl

/-- The reference's magnitudes of the five groups, counted among the powers of two. -/
theorem count_at (v25 : FVec Ideal S2048x1 .f32) (v35 v38 v39 : FVec Ideal S2048x512 .f32) (n : Fin 2048) (q : Fin 5) :
    k0_pay12 v25 v35 v38 v39 k (ix2 n q) = countS (qG (row (k0_pay10 v25 v35 v38 v39) n) (row k n) q) := by
  generalize hv : k0_pay10 v25 v35 v38 v39 = v
  unfold k0_pay12
  rw [hv]
  pointwise [k0_pay11]
  unfold countS
  refine Finset.sum_congr rfl fun y _ => ?_
  rw [power_at]
  congr 2
  unfold qG qR grp row
  fin_cases q <;> simp

theorem e_at (v : FVec Ideal S2048x5 .f32) (n : Fin 2048) (q : Fin 5) (y : EReal) (h : v (ix2 n q) = countS y) : k0_pay13 v (ix2 n q) = eS y := by
  pointwise [k0_pay13]
  rw [h]
  unfold eS
  rfl

/-- A number for each group of columns, read at a column. -/
theorem ladder (f : Fin 5 → EReal) (j : Fin 576) :
    (if h : j.val < 128 then f 0 else if h : j.val - 128 < 128 then f 1 else if h : j.val - 128 - 128 < 128 then f 2
      else if h : j.val - 128 - 128 - 128 < 128 then f 3 else f 4) = f (grpOf j) := by
  have hj := j.isLt
  unfold grpOf
  split_ifs <;> refine congrArg f (Fin.ext ?_) <;> show _ = j.val / 128
  · show 0 = _; omega
  · show 1 = _; omega
  · show 2 = _; omega
  · show 3 = _; omega
  · show 4 = _; omega

theorem codes_at (v : FVec Ideal S2048x512 .f32) (c : FVec Ideal S2048x5 .f32) (n : Fin 2048) (j : Fin 576)
    (h : ∀ q, k0_pay13 c (ix2 n q) = eS (qG (row v n) (row k n) q)) : k0_pay15 v k c (ix2 n j) = codeR (row v n) (row k n) j := by
  pointwise [k0_pay15]
  unfold codeR
  rw [(quant _).2, ← h, ← ladder (fun q => Ideal.exp2 (0 - k0_pay13 c (ix2 n q)))]
  rfl

theorem dx_at (W : FVec Ideal S7168x576 .bf16) (v : FVec Ideal S2048x576 .bf16) (c : FVec Ideal S2048x5 .f32) (n : Fin 2048) (j : Fin 7168) :
    k0_pay1 W v (k0_pay17 c) (k0_pay18 c) (k0_pay19 c) (k0_pay20 c) (k0_pay21 c) (ix2 n j)
      = ∑ y : Fin 576, (v (ix2 n y) * Ideal.exp2 (k0_pay13 c (ix2 n (grpOf y)))) * W (ix2 j y) := by
  pointwise [k0_pay1, k0_pay17, k0_pay18, k0_pay19, k0_pay20, k0_pay21]
  refine Finset.sum_congr rfl fun y _ => ?_
  rw [← ladder (fun q => Ideal.exp2 (k0_pay13 c (ix2 n q)))]
  rfl

theorem scales_at (c : FVec Ideal S2048x5 .f32) (n : Fin 2048) (q : Fin 5) : k0_pay14 c (ix2 n q) = Ideal.exp2 (k0_pay13 c (ix2 n q)) := by
  pointwise [k0_pay14]
  rfl

end Cert.ReferenceIdeal.Hand

end
-- ==== Proof.Alg.ROut.lean ====
/- The reference's four result arrays after its run: the results of `Whole.lean` of its arguments. -/
module

public import proofs.«01_k».proof.Proof.Gen.ReferenceIdeal.Frame
public import proofs.«01_k».proof.Proof.Alg.RRow
public import proofs.«01_k».proof.Proof.Alg.Whole
public import Idealize.ShloMosaic.Lib.Pipeline.ValueKit

@[expose] public section

set_option maxRecDepth 65536

noncomputable section

namespace Cert.ReferenceIdeal.Hand

open Idealize.ShloMosaic Idealize.ShloMosaic.TcCoe Idealize.ShloMosaic.Tactic
open Cert.ReferenceIdeal.Gen Cert.Alg

variable (m : (ℓ : Loc nD τ sig) → Buf (Elt Ideal) ℓ) (c : Dev nD)

/-- The arguments. -/
def args : In where
  x := m ((c.tc : Thread nD τ).loc main_arg0)
  xs := m ((c.tc : Thread nD τ).loc main_arg1)
  w := m ((c.tc : Thread nD τ).loc main_arg2)
  ws := m ((c.tc : Thread nD τ).loc main_arg3)
  g := m ((c.tc : Thread nD τ).loc main_arg4)
  pos := m ((c.tc : Thread nD τ).loc main_arg5)
  d := m ((c.tc : Thread nD τ).loc main_arg6)
  k := m ((c.tc : Thread nD τ).loc main_arg7)

/-- The operands the host computes: the scales spread over the elements, -/
theorem xs_host (n : Fin 2048) (y : Fin 7168) :
    V m c main_v39 (ix2 n y) = (args m c).xs (ix3 (bat n) (plc n) ⟨y.val / 128, by have := y.isLt; omega⟩) := by
  entry_read
  pointwise
  rfl

theorem ws_host (y : Fin 7168) (j : Fin 576) :
    V m c main_v44 (ix2 y j) = (args m c).ws (ix2 ⟨y.val / 128, by have := y.isLt; omega⟩ ⟨j.val / 128, by have := j.isLt; omega⟩) := by
  entry_read
  pointwise
  rfl

/-- the arguments laid out token by token, -/
theorem x_host (n : Fin 2048) (y : Fin 7168) : V m c main_v45 (ix2 n y) = (args m c).x (ix3 (bat n) (plc n) y) := by
  entry_read
  pointwise
  rfl

theorem d_host (n : Fin 2048) (j : Fin 512) : V m c main_v47 (ix2 n j) = dW (args m c) n j := by
  entry_read
  pointwise
  rfl

theorem g_host (j : Fin 512) : V m c main_v46 (ix2 0 j) = gW (args m c) j := by
  entry_read
  pointwise
  rfl

/-- The rotary gradient as the pairs' stack lays it out. -/
theorem rope_pairs (d a : Fin 64 → EReal) (p f : EReal) (k : Fin 64) (ha : a k = f * p) :
    (if h : k.val % 2 < 1 then
        d ⟨k.val / 2 * 2, by have := k.isLt; omega⟩ * Ideal.cos (p * f) + d ⟨k.val / 2 * 2 + 1, by have := k.isLt; omega⟩ * Ideal.sin (p * f)
      else
        -d ⟨k.val / 2 * 2, by have := k.isLt; omega⟩ * Ideal.sin (p * f) + d ⟨k.val / 2 * 2 + 1, by have := k.isLt; omega⟩ * Ideal.cos (p * f))
      = ropeR a d k := by
  have hk := k.isLt
  unfold ropeR
  rw [ha, mul_comm p f]
  by_cases h : k.val % 2 = 0
  · rw [dif_pos (show k.val % 2 < 1 by omega), dif_pos h]
    have e0 : (⟨k.val / 2 * 2, by omega⟩ : Fin 64) = k := Fin.ext (by show k.val / 2 * 2 = k.val; omega)
    have e1 : (⟨k.val / 2 * 2 + 1, by omega⟩ : Fin 64) = ⟨k.val + 1, by omega⟩ := Fin.ext (by show k.val / 2 * 2 + 1 = k.val + 1; omega)
    rw [e0, e1]
  · rw [dif_neg (show ¬ k.val % 2 < 1 by omega), dif_neg h]
    have e0 : (⟨k.val / 2 * 2, by omega⟩ : Fin 64) = ⟨k.val - 1, by omega⟩ := Fin.ext (by show k.val / 2 * 2 = k.val - 1; omega)
    have e1 : (⟨k.val / 2 * 2 + 1, by omega⟩ : Fin 64) = k := Fin.ext (by show k.val / 2 * 2 + 1 = k.val; omega)
    rw [e0, e1, zero_sub, add_comm]

/-- and the rotary gradient. -/
theorem k_host (n : Fin 2048) (k : Fin 64) : V m c main_v35 (ix2 n k) = kW (args m c) n k := by
  entry_read
  pointwise
  exact rope_pairs (fun y => (args m c).k (ix3 (bat n) (plc n) y)) (angW (args m c) n)
    (FloatOps.sitofp (F := Ideal) .f32 ((args m c).pos (ix2 (bat n) (plc n)))) (freqW k) k rfl

/-- The operands as the body loads them. -/
abbrev oX : Vec Ideal S2048x7168 .fp8e4m3 := V m c main_v45
abbrev oXs : Vec Ideal S2048x7168 .bf16 := V m c main_v39
abbrev oW : Vec Ideal S7168x576 .fp8e4m3 := V m c main_arg2
abbrev oWs : Vec Ideal S7168x576 .bf16 := V m c main_v44
abbrev oG : Vec Ideal S1x512 .f32 := V m c main_v46
abbrev oD : Vec Ideal S2048x512 .bf16 := V m c main_v47
abbrev oK : Vec Ideal S2048x64 .f32 := V m c main_v35

/-- The latent of the operands, -/
theorem lat_row (n : Fin 2048) : row (k0_pay3 (oW m c) (oWs m c) (oX m c) (oXs m c)) n = cW (args m c) n := by
  funext j
  refine (lat_at _ _ _ _ n j).trans (Finset.sum_congr rfl fun y _ => ?_)
  exact congrArg₂ (· * ·) (congrArg₂ (· * ·) (x_host m c n y) (xs_host m c n y)) (congrArg ((args m c).w (ix2 y _) * ·) (ws_host m c y _))

/-- the norm's gradient, -/
abbrev normO : FVec Ideal S2048x512 .f32 :=
  k0_pay10 (k0_pay5 (oW m c) (oWs m c) (oX m c) (oXs m c)) (k0_pay7 (oD m c) (oG m c)) (k0_pay8 (oW m c) (oWs m c) (oX m c) (oXs m c))
    (k0_pay9 (oW m c) (oWs m c) (oX m c) (oXs m c) (oD m c) (oG m c))

theorem norm_row (n : Fin 2048) : row (normO m c) n = vW (args m c) n := by
  funext j
  refine (norm_at _ _ _ _ _ _ n j).trans ?_
  rw [lat_row]
  have h1 : row (oD m c) n = dW (args m c) n := funext fun j => d_host m c n j
  have h2 : row (oG m c) 0 = gW (args m c) := funext fun j => g_host m c j
  rw [h1, h2]
  rfl

theorem rope_row (n : Fin 2048) : row (oK m c) n = kW (args m c) n := funext fun k => k_host m c n k

/-- and the exponents. -/
abbrev countO : FVec Ideal S2048x5 .f32 :=
  k0_pay12 (k0_pay5 (oW m c) (oWs m c) (oX m c) (oXs m c)) (k0_pay7 (oD m c) (oG m c)) (k0_pay8 (oW m c) (oWs m c) (oX m c) (oXs m c))
    (k0_pay9 (oW m c) (oWs m c) (oX m c) (oXs m c) (oD m c) (oG m c)) (oK m c)

theorem e_row (n : Fin 2048) (q : Fin 5) : k0_pay13 (countO m c) (ix2 n q) = eS (qG (row (normO m c) n) (row (oK m c) n) q) :=
  e_at _ n q _ (count_at _ _ _ _ _ n q)

/-- Every window's one block starts at the array's origin. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] := (by decide +kernel : ∀ t : Fin grid0.N, _)

/-- Each operand's block is the operand. -/
theorem iblk0 (t : Fin cfg0.N) : iblk m c 0 t = oX m c := by blk_ext! [iblk, idx t]
theorem iblk1 (t : Fin cfg0.N) : iblk m c 1 t = oXs m c := by blk_ext! [iblk, idx t]
theorem iblk2 (t : Fin cfg0.N) : iblk m c 2 t = oW m c := by blk_ext! [iblk, idx t]
theorem iblk3 (t : Fin cfg0.N) : iblk m c 3 t = oWs m c := by blk_ext! [iblk, idx t]
theorem iblk4 (t : Fin cfg0.N) : iblk m c 4 t = oG m c := by blk_ext! [iblk, idx t]
theorem iblk5 (t : Fin cfg0.N) : iblk m c 5 t = oD m c := by blk_ext! [iblk, idx t]
theorem iblk6 (t : Fin cfg0.N) : iblk m c 6 t = oK m c := by blk_ext! [iblk, idx t]

/-- The values stated apart, of the operands. -/
theorem pay26_eq (x0 : Vec Ideal S2048x7168 .fp8e4m3) (x1 : Vec Ideal S2048x7168 .bf16) (x2 : Vec Ideal S7168x576 .fp8e4m3)
    (x3 : Vec Ideal S7168x576 .bf16) (x4 : Vec Ideal S1x512 .f32) (x5 : Vec Ideal S2048x512 .bf16) (x6 : Vec Ideal S2048x64 .f32) :
    k0_pay26 x0 x1 x2 x3 x4 x5 x6 = k0_pay10 (k0_pay5 x2 x3 x0 x1) (k0_pay7 x5 x4) (k0_pay8 x2 x3 x0 x1) (k0_pay9 x2 x3 x0 x1 x5 x4)
    ∧ k0_pay27 x0 x1 x2 x3 x4 x5 x6 = x6
    ∧ k0_pay28 x0 x1 x2 x3 x4 x5 x6
      = k0_pay12 (k0_pay5 x2 x3 x0 x1) (k0_pay7 x5 x4) (k0_pay8 x2 x3 x0 x1) (k0_pay9 x2 x3 x0 x1 x5 x4) x6 := by
  have off00 : (![0, 0] : Fin 2 → ℕ) = fun _ => 0 := by decide
  have e0 : View.ld x0 r0_1 = x0 := View.ld_unit_zero (S := S2048x7168) off00 _ _
  have e1 : View.ld x1 r0_1 = x1 := View.ld_unit_zero (S := S2048x7168) off00 _ _
  have e2 : View.ld x2 r0_0 = x2 := View.ld_unit_zero (S := S7168x576) off00 _ _
  have e3 : View.ld x3 r0_0 = x3 := View.ld_unit_zero (S := S7168x576) off00 _ _
  have e4 : View.ld x4 r0_4 = x4 := View.ld_unit_zero (S := S1x512) off00 _ _
  have e5 : View.ld x5 r0_2 = x5 := View.ld_unit_zero (S := S2048x512) off00 _ _
  have e6 : View.ld x6 r0_5 = x6 := View.ld_unit_zero (S := S2048x64) off00 _ _
  unfold k0_pay26 k0_pay27 k0_pay28 k0_pay25 k0_pay24 k0_pay23 k0_pay22 k0_pay11
  rw [e0, e1, e2, e3, e4, e5, e6]
  exact ⟨rfl, shapeCast_self _ _, rfl⟩

theorem scales_at_W (n : Fin 2048) (q : Fin 5) : k0_pay14 (countO m c) (ix2 n q) = scalesW (args m c) n q := by
  rw [scales_at, e_row, ← (quant _).1, norm_row, rope_row]
  rfl

theorem codes_at_W (n : Fin 2048) (j : Fin 576) : k0_pay15 (normO m c) (oK m c) (countO m c) (ix2 n j) = codesW (args m c) n j := by
  rw [codes_at _ _ _ n j (e_row m c n), norm_row, rope_row]
  rfl

theorem gain_at_W (i : Fin 16) (j : Fin 512) : k0_pay6 (oW m c) (oWs m c) (oX m c) (oXs m c) (oD m c) (ix2 i j) = gainW (args m c) i j := by
  refine (gain_at _ _ _ _ _ i j).trans (Finset.sum_congr rfl fun y _ => ?_)
  rw [lat_row]
  have h1 : ∀ n, row (oD m c) n = dW (args m c) n := fun n => funext fun j => d_host m c n j
  rw [h1]

theorem dx_at_W (n : Fin 2048) (j : Fin 7168) :
    k0_pay1 (k0_pay2 (oW m c) (oWs m c)) (k0_pay16 (normO m c) (oK m c) (countO m c)) (k0_pay17 (countO m c)) (k0_pay18 (countO m c))
      (k0_pay19 (countO m c)) (k0_pay20 (countO m c)) (k0_pay21 (countO m c)) (ix2 n j) = dxW (args m c) n j := by
  refine (dx_at _ _ _ n j).trans (Finset.sum_congr rfl fun y _ => ?_)
  have h1 : k0_pay16 (normO m c) (oK m c) (countO m c) (ix2 n y) = codesW (args m c) n y := codes_at_W m c n y
  have h2 : k0_pay2 (oW m c) (oWs m c) (ix2 j y) = wW (args m c) j y := by
    refine Eq.trans (b := oW m c (ix2 j y) * oWs m c (ix2 j y)) ?_ (congrArg ((args m c).w (ix2 j y) * ·) (ws_host m c j y))
    pointwise [k0_pay2]
  rw [h1, h2, e_row, ← (quant _).1, norm_row, rope_row]
  rfl

/-- The four result arrays. -/
theorem dx_final : (dats m 0 c).arrAt 7 cfg0.N = fun j : S2048x7168.Idx => dxW (args m c) (j 0) (j 1) := by
  refine (dats m 0 c).arrAt_eq_of_after_last 7 t0_0 (by decide +kernel) _ fun j => ?_
  blk_simp
  rw [after0_7]
  frame_out
  rw [iblk0, iblk1, iblk2, iblk3, iblk4, iblk5, iblk6, (pay26_eq _ _ _ _ _ _ _).1, (pay26_eq _ _ _ _ _ _ _).2.1, (pay26_eq _ _ _ _ _ _ _).2.2]
  exact (congrArg _ (ix2_eta j).symm).trans (dx_at_W m c (j 0) (j 1))

theorem gain_final : (dats m 0 c).arrAt 8 cfg0.N = fun j : S16x512.Idx => gainW (args m c) (j 0) (j 1) := by
  refine (dats m 0 c).arrAt_eq_of_after_last 8 t0_0 (by decide +kernel) _ fun j => ?_
  blk_simp
  rw [after0_8]
  frame_out
  rw [iblk0, iblk1, iblk2, iblk3, iblk5]
  exact (congrArg _ (ix2_eta j).symm).trans (gain_at_W m c (j 0) (j 1))

theorem codes_final : (dats m 0 c).arrAt 9 cfg0.N = fun j : S2048x576.Idx => codesW (args m c) (j 0) (j 1) := by
  refine (dats m 0 c).arrAt_eq_of_after_last 9 t0_0 (by decide +kernel) _ fun j => ?_
  blk_simp
  rw [after0_9]
  frame_out
  rw [iblk0, iblk1, iblk2, iblk3, iblk4, iblk5, iblk6, (pay26_eq _ _ _ _ _ _ _).1, (pay26_eq _ _ _ _ _ _ _).2.1, (pay26_eq _ _ _ _ _ _ _).2.2]
  exact (congrArg _ (ix2_eta j).symm).trans (codes_at_W m c (j 0) (j 1))

theorem scales_final : (dats m 0 c).arrAt 10 cfg0.N = fun j : S2048x5.Idx => scalesW (args m c) (j 0) (j 1) := by
  refine (dats m 0 c).arrAt_eq_of_after_last 10 t0_0 (by decide +kernel) _ fun j => ?_
  blk_simp
  rw [after0_10]
  frame_out
  rw [iblk0, iblk1, iblk2, iblk3, iblk4, iblk5, iblk6, (pay26_eq _ _ _ _ _ _ _).2.2]
  exact (congrArg _ (ix2_eta j).symm).trans (scales_at_W m c (j 0) (j 1))

end Cert.ReferenceIdeal.Hand

end
-- ==== Proof.Alg.Equal.lean ====
/- The kernel and the reference end with equal results over the extended reals. -/
module

public import proofs.«01_k».proof.Defs
public import proofs.«01_k».proof.Proof.Alg.KOut
public import proofs.«01_k».proof.Proof.Alg.ROut
public import proofs.«01_k».proof.Proof.Gen.ReferenceIdeal.Value

@[expose] public section

set_option maxRecDepth 65536

noncomputable section

namespace Cert.Alg

open Idealize.ShloMosaic Idealize.ShloMosaic.TcCoe

/-- Equal arguments, equal results. -/
theorem algebraic : Cert.algebraic_KernelIdeal_ReferenceIdeal := by
  intro m g m' g' _ hag
  have ha : ∀ c, Cert.ReferenceIdeal.Hand.args m' c = Cert.KernelIdeal.Hand.args m c := by
    intro c
    obtain ⟨h0, h1, h2, h3, h4, h5, h6, h7⟩ := hag c
    unfold Cert.ReferenceIdeal.Hand.args Cert.KernelIdeal.Hand.args
    rw [h0, h1, h2, h3, h4, h5, h6, h7]
  refine ⟨fun c => fun j : Cert.KernelIdeal.S2048x7168.Idx => dxW (Cert.KernelIdeal.Hand.args m c) (j 0) (j 1),
    fun c => fun j : Cert.KernelIdeal.S16x512.Idx => gainW (Cert.KernelIdeal.Hand.args m c) (j 0) (j 1),
    fun c => fun j : Cert.KernelIdeal.S2048x576.Idx => codesW (Cert.KernelIdeal.Hand.args m c) (j 0) (j 1),
    fun c => fun j : Cert.KernelIdeal.S2048x5.Idx => scalesW (Cert.KernelIdeal.Hand.args m c) (j 0) (j 1),
    Cert.KernelIdeal.Hand.run_results m g, ?_⟩
  refine (θ_run Cert.ReferenceIdeal.defs _ _).mono (fun r h c => ?_) (Cert.ReferenceIdeal.Value.run_blocks m' g')
  obtain ⟨h0, h1, h2, h3, hk⟩ := h c
  rw [Cert.ReferenceIdeal.Hand.dx_final, ha c] at h0
  rw [Cert.ReferenceIdeal.Hand.gain_final, ha c] at h1
  rw [Cert.ReferenceIdeal.Hand.codes_final, ha c] at h2
  rw [Cert.ReferenceIdeal.Hand.scales_final, ha c] at h3
  exact ⟨h0, h1, h2, h3, hk⟩

end Cert.Alg

end
-- ==== Proof.lean ====
module

public import proofs.«01_k».proof.Defs
public import proofs.«01_k».proof.Proof.K.Frame
public import proofs.«01_k».proof.Proof.KI.Frame
public import proofs.«01_k».proof.Proof.Gen.ReferenceIdeal.Frame
public import proofs.«01_k».proof.Proof.Alg.Equal

@[expose] public section

/-- The claim: the three programs' frames, that the idealization changes no operation, and that the kernel and the reference
    end with equal results over the extended reals. -/
theorem Cert.Proof.claim : Cert.Claim :=
  ⟨Cert.Kernel.Gen.facts, Cert.KernelIdeal.Gen.facts, Cert.ReferenceIdeal.Gen.facts,
    fun m ρ _ => Cert.Kernel.Hand.frame m ρ,
    fun m ρ _ => Cert.KernelIdeal.Hand.frame m ρ,
    fun m ρ _ => Cert.ReferenceIdeal.Gen.frame m ρ,
    trivial,
    Cert.Alg.algebraic⟩
